-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S16x1x512x512 : Shape := ⟨4, ![16, 1, 512, 512]⟩
abbrev S4x1x512x512 : Shape := ⟨4, ![4, 1, 512, 512]⟩
abbrev S2048x512 : Shape := ⟨2, ![2048, 512]⟩
abbrev S24576x512 : Shape := ⟨2, ![24576, 512]⟩
abbrev S1024 : Shape := ⟨1, ![1024]⟩
abbrev S16x512 : Shape := ⟨2, ![16, 512]⟩
abbrev S48x512 : Shape := ⟨2, ![48, 512]⟩
abbrev S32 : Shape := ⟨1, ![32]⟩
abbrev S_ : Shape := ⟨0, ![]⟩
abbrev S16 : Shape := ⟨1, ![16]⟩
abbrev S1x16 : Shape := ⟨2, ![1, 16]⟩
abbrev S2 : Shape := ⟨1, ![2]⟩
abbrev S1x3x512x512 : Shape := ⟨4, ![1, 3, 512, 512]⟩
abbrev S1x1x512x512 : Shape := ⟨4, ![1, 1, 512, 512]⟩
abbrev S1 : Shape := ⟨1, ![1]⟩
abbrev S512x512 : Shape := ⟨2, ![512, 512]⟩
abbrev S3x512x512 : Shape := ⟨3, ![3, 512, 512]⟩
abbrev S1x512x512 : Shape := ⟨3, ![1, 512, 512]⟩
abbrev S1x1x1x1 : Shape := ⟨4, ![1, 1, 1, 1]⟩
abbrev S1x1x1 : Shape := ⟨3, ![1, 1, 1]⟩
abbrev S512 : Shape := ⟨1, ![512]⟩
abbrev S1x512 : Shape := ⟨2, ![1, 512]⟩
abbrev S1x1 : Shape := ⟨2, ![1, 1]⟩

abbrev nBuf : Table → Nat
  | .hbm => 13
  | .local .tc .vmem => 7
  | .local .tc .smem => 4
  | .local .scVector .vmem => 7
  | _ => 0

abbrev bufTy : (tb : Table) → Fin (nBuf tb) → BufTy
  | .hbm, ⟨0, _⟩ => ⟨S16x3x512x512, .f32⟩
  | .hbm, ⟨1, _⟩ => ⟨S16x3x512x512, .f32⟩
  | .hbm, ⟨2, _⟩ => ⟨S16x1x512x512, .i1⟩
  | .hbm, ⟨3, _⟩ => ⟨S4x1x512x512, .i1⟩
  | .hbm, ⟨4, _⟩ => ⟨S4x1x512x512, .f32⟩
  | .hbm, ⟨5, _⟩ => ⟨S2048x512, .f32⟩
  | .hbm, ⟨6, _⟩ => ⟨S24576x512, .f32⟩
  | .hbm, ⟨7, _⟩ => ⟨S24576x512, .f32⟩
  | .hbm, ⟨8, _⟩ => ⟨S1024, .f32⟩
  | .hbm, ⟨9, _⟩ => ⟨S16x1x512x512, .i8⟩
  | .hbm, ⟨10, _⟩ => ⟨S2, .f32⟩
  | .hbm, ⟨11, _⟩ => ⟨S1, .f32⟩
  | .hbm, ⟨12, _⟩ => ⟨S_, .f32⟩
  | .local .tc .vmem, ⟨0, _⟩ => ⟨S1x3x512x512, .f32⟩
  | .local .tc .vmem, ⟨1, _⟩ => ⟨S1x3x512x512, .f32⟩
  | .local .tc .vmem, ⟨2, _⟩ => ⟨S1x3x512x512, .f32⟩
  | .local .tc .vmem, ⟨3, _⟩ => ⟨S1x3x512x512, .f32⟩
  | .local .tc .vmem, ⟨4, _⟩ => ⟨S1x1x512x512, .i8⟩
  | .local .tc .vmem, ⟨5, _⟩ => ⟨S1x1x512x512, .i8⟩
  | .local .tc .vmem, ⟨6, _⟩ => ⟨S1024, .f32⟩
  | .local .tc .smem, ⟨0, _⟩ => ⟨S2, .f32⟩
  | .local .tc .smem, ⟨1, _⟩ => ⟨S2, .f32⟩
  | .local .tc .smem, ⟨2, _⟩ => ⟨S2, .f32⟩
  | .local .tc .smem, ⟨3, _⟩ => ⟨S1, .f32⟩
  | .local .scVector .vmem, ⟨0, _⟩ => ⟨S16x512, .f32⟩
  | .local .scVector .vmem, ⟨1, _⟩ => ⟨S16x512, .f32⟩
  | .local .scVector .vmem, ⟨2, _⟩ => ⟨S48x512, .f32⟩
  | .local .scVector .vmem, ⟨3, _⟩ => ⟨S48x512, .f32⟩
  | .local .scVector .vmem, ⟨4, _⟩ => ⟨S48x512, .f32⟩
  | .local .scVector .vmem, ⟨5, _⟩ => ⟨S48x512, .f32⟩
  | .local .scVector .vmem, ⟨6, _⟩ => ⟨S32, .f32⟩
  | _, _ => ⟨S16x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v3_scv : Ref sig .scVector := ⟨.hbm, 6, rfl⟩
abbrev main_v4_scv : Ref sig .scVector := ⟨.hbm, 7, rfl⟩
abbrev main_v2_scv : Ref sig .scVector := ⟨.hbm, 5, rfl⟩
abbrev main_v5_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc1_stg3_0 : Ref sig .tc := ⟨.smem, 0, rfl⟩
abbrev cc1_scratch0 : Ref sig .tc := ⟨.smem, 1, rfl⟩
abbrev cc2_stg1_0 : Ref sig .tc := ⟨.smem, 2, rfl⟩
abbrev cc2_stg2_0 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc2_sem0_0 : DmaSem sig := 11
abbrev cc2_sem1_0 : DmaSem sig := 12
abbrev cc2_sem2_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let c512_i32 : BitVec 32 := 512#32
  let v33 : BitVec 32 := Scalar.muli v21 c512_i32
  let c32_i32_5 : BitVec 32 := 32#32
  let c0_i32_6 : BitVec 32 := 0#32
  let v22 : BitVec 1 := Scalar.cmpi .eq c32_i32_5 c0_i32_6
  let c1_i32_7 : BitVec 32 := 1#32
  let v23 : BitVec 32 := Scalar.select v22 c1_i32_7 c32_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v34 : BitVec 32 := Scalar.addi v33 v32
  let c0_i32_11 : BitVec 32 := 0#32
  ![v34.toNat, 0]
def k0_off2 (i : grid0.Coords) (c0_i32 : BitVec 32) (c0_i32_13 : BitVec 32) : Fin 2 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32 : BitVec 32 := 32#32
  let c0_i32_2 : BitVec 32 := 0#32
  let v11 : BitVec 1 := Scalar.cmpi .sgt c32_i32 c0_i32_2
  let v12 : BitVec 32 := Scalar.extui v11
  let c0_i32_3 : BitVec 32 := 0#32
  let v13 : BitVec 1 := Scalar.cmpi .slt c32_i32 c0_i32_3
  let v14 : BitVec 32 := Scalar.extui v13
  let v15 : BitVec 32 := Scalar.subi v12 v14
  let v16 : BitVec 1 := Scalar.cmpi .ne v10 v15
  let v17 : BitVec 32 := Scalar.remsi v4 c32_i32
  let c0_i32_4 : BitVec 32 := 0#32
  let v18 : BitVec 1 := Scalar.cmpi .ne v17 c0_i32_4
  let v19 : BitVec 1 := Scalar.andi v16 v18
  let v5 : BitVec 32 := Scalar.divsi v4 c32_i32
  let c1_i32 : BitVec 32 := 1#32
  let v20 : BitVec 32 := Scalar.subi v5 c1_i32
  let v21 : BitVec 32 := Scalar.select v19 v20 v5
  let v37 : BitVec 32 := Scalar.addi c12_i32 v21
  let c3_i32 : BitVec 32 := 3#32
  let v38 : BitVec 32 := Scalar.muli v37 c3_i32
  let v39 : BitVec 32 := Scalar.addi v38 c0_i32_13
  let c512_i32_14 : BitVec 32 := 512#32
  let v40 : BitVec 32 := Scalar.muli v39 c512_i32_14
  let c32_i32_5 : BitVec 32 := 32#32
  let c0_i32_6 : BitVec 32 := 0#32
  let v22 : BitVec 1 := Scalar.cmpi .eq c32_i32_5 c0_i32_6
  let c1_i32_7 : BitVec 32 := 1#32
  let v23 : BitVec 32 := Scalar.select v22 c1_i32_7 c32_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c16_i32 : BitVec 32 := 16#32
  let v32 : BitVec 32 := Scalar.muli v31 c16_i32
  let v41 : BitVec 32 := Scalar.addi v40 v32
  let c0_i32_17 : BitVec 32 := 0#32
  ![v41.toNat, 0]
@[reducible] def k0_t1_loop : Scf.Loop 32 :=
  let c0_i32_164 : BitVec 32 := 0#32
  let c64_i32 : BitVec 32 := 64#32
  let v175 : BitVec 32 := Scalar.addi c0_i32_164 c64_i32
  let c1_i32_165 : BitVec 32 := 1#32
  ⟨c0_i32_164, v175, c1_i32_165⟩
def k0_off3 (k0_t1 : Fin k0_t1_loop.trips) (c0_i32_443 : BitVec 32) : Fin 2 → Nat :=
  let c0_i32_164 : BitVec 32 := 0#32
  let c1_i32_165 : BitVec 32 := 1#32
  let arg15 : BitVec 32 := Scf.iv c0_i32_164 c1_i32_165 k0_t1
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v447 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v448 : Index := Scalar.indexCast v446
  ![v447.toNat, v448.toNat]
def k0_off4 (k0_t1 : Fin k0_t1_loop.trips) (c0_i32_443 : BitVec 32) : Fin 2 → Nat :=
  let c0_i32_164 : BitVec 32 := 0#32
  let c1_i32_165 : BitVec 32 := 1#32
  let arg15 : BitVec 32 := Scf.iv c0_i32_164 c1_i32_165 k0_t1
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v453 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v454 : Index := Scalar.indexCast v446
  ![v453.toNat, v454.toNat]
def k0_off5 (k0_t1 : Fin k0_t1_loop.trips) (c16_i32_445 : BitVec 32) (c0_i32_443 : BitVec 32) : Fin 2 → Nat :=
  let c0_i32_164 : BitVec 32 := 0#32
  let c1_i32_165 : BitVec 32 := 1#32
  let arg15 : BitVec 32 := Scf.iv c0_i32_164 c1_i32_165 k0_t1
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v462 : BitVec 32 := Scalar.addi c16_i32_445 v434
  let v463 : Index := Scalar.indexCast v462
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v464 : Index := Scalar.indexCast v446
  ![v463.toNat, v464.toNat]
@[reducible] def k0_t2_loop : Scf.Loop 32 :=
  let c0_i32_272 : BitVec 32 := 0#32
  let c64_i32_273 : BitVec 32 := 64#32
  let v276 : BitVec 32 := Scalar.addi c0_i32_272 c64_i32_273
  let c1_i32_274 : BitVec 32 := 1#32
  ⟨c0_i32_272, v276, c1_i32_274⟩
def k0_off6 (k0_t2 : Fin k0_t2_loop.trips) (c0_i32_443 : BitVec 32) : Fin 2 → Nat :=
  let c0_i32_272 : BitVec 32 := 0#32
  let c1_i32_274 : BitVec 32 := 1#32
  let arg15 : BitVec 32 := Scf.iv c0_i32_272 c1_i32_274 k0_t2
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v447 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v448 : Index := Scalar.indexCast v446
  ![v447.toNat, v448.toNat]
def k0_off7 (k0_t2 : Fin k0_t2_loop.trips) (c0_i32_443 : BitVec 32) : Fin 2 → Nat :=
  let c0_i32_272 : BitVec 32 := 0#32
  let c1_i32_274 : BitVec 32 := 1#32
  let arg15 : BitVec 32 := Scf.iv c0_i32_272 c1_i32_274 k0_t2
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v453 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v454 : Index := Scalar.indexCast v446
  ![v453.toNat, v454.toNat]
def k0_off8 (k0_t2 : Fin k0_t2_loop.trips) (c16_i32_445 : BitVec 32) (c0_i32_443 : BitVec 32) : Fin 2 → Nat :=
  let c0_i32_272 : BitVec 32 := 0#32
  let c1_i32_274 : BitVec 32 := 1#32
  let arg15 : BitVec 32 := Scf.iv c0_i32_272 c1_i32_274 k0_t2
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v462 : BitVec 32 := Scalar.addi c16_i32_445 v434
  let v463 : Index := Scalar.indexCast v462
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v464 : Index := Scalar.indexCast v446
  ![v463.toNat, v464.toNat]
@[reducible] def k0_t3_loop : Scf.Loop 32 :=
  let c0_i32_381 : BitVec 32 := 0#32
  let c64_i32_382 : BitVec 32 := 64#32
  let v377 : BitVec 32 := Scalar.addi c0_i32_381 c64_i32_382
  let c1_i32_383 : BitVec 32 := 1#32
  ⟨c0_i32_381, v377, c1_i32_383⟩
def k0_off9 (k0_t3 : Fin k0_t3_loop.trips) (c0_i32_443 : BitVec 32) : Fin 2 → Nat :=
  let c0_i32_381 : BitVec 32 := 0#32
  let c1_i32_383 : BitVec 32 := 1#32
  let arg15 : BitVec 32 := Scf.iv c0_i32_381 c1_i32_383 k0_t3
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v447 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v448 : Index := Scalar.indexCast v446
  ![v447.toNat, v448.toNat]
def k0_off10 (k0_t3 : Fin k0_t3_loop.trips) (c0_i32_443 : BitVec 32) : Fin 2 → Nat :=
  let c0_i32_381 : BitVec 32 := 0#32
  let c1_i32_383 : BitVec 32 := 1#32
  let arg15 : BitVec 32 := Scf.iv c0_i32_381 c1_i32_383 k0_t3
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v453 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v454 : Index := Scalar.indexCast v446
  ![v453.toNat, v454.toNat]
def k0_off11 (k0_t3 : Fin k0_t3_loop.trips) (c16_i32_445 : BitVec 32) (c0_i32_443 : BitVec 32) : Fin 2 → Nat :=
  let c0_i32_381 : BitVec 32 := 0#32
  let c1_i32_383 : BitVec 32 := 1#32
  let arg15 : BitVec 32 := Scf.iv c0_i32_381 c1_i32_383 k0_t3
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v462 : BitVec 32 := Scalar.addi c16_i32_445 v434
  let v463 : Index := Scalar.indexCast v462
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v464 : Index := Scalar.indexCast v446
  ![v463.toNat, v464.toNat]
@[reducible] def k0_t4_loop : Scf.Loop 32 :=
  let c0_i32_423 : BitVec 32 := 0#32
  let c64_i32_424 : BitVec 32 := 64#32
  let v405 : BitVec 32 := Scalar.addi c0_i32_423 c64_i32_424
  let c1_i32_425 : BitVec 32 := 1#32
  ⟨c0_i32_423, v405, c1_i32_425⟩
def k0_off12 (k0_t4 : Fin k0_t4_loop.trips) (c0_i32_443 : BitVec 32) : Fin 2 → Nat :=
  let c0_i32_423 : BitVec 32 := 0#32
  let c1_i32_425 : BitVec 32 := 1#32
  let arg15 : BitVec 32 := Scf.iv c0_i32_423 c1_i32_425 k0_t4
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v447 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v448 : Index := Scalar.indexCast v446
  ![v447.toNat, v448.toNat]
def k0_off13 (k0_t4 : Fin k0_t4_loop.trips) (c0_i32_443 : BitVec 32) : Fin 2 → Nat :=
  let c0_i32_423 : BitVec 32 := 0#32
  let c1_i32_425 : BitVec 32 := 1#32
  let arg15 : BitVec 32 := Scf.iv c0_i32_423 c1_i32_425 k0_t4
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v453 : Index := Scalar.indexCast v434
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v454 : Index := Scalar.indexCast v446
  ![v453.toNat, v454.toNat]
def k0_off14 (k0_t4 : Fin k0_t4_loop.trips) (c16_i32_445 : BitVec 32) (c0_i32_443 : BitVec 32) : Fin 2 → Nat :=
  let c0_i32_423 : BitVec 32 := 0#32
  let c1_i32_425 : BitVec 32 := 1#32
  let arg15 : BitVec 32 := Scf.iv c0_i32_423 c1_i32_425 k0_t4
  let c0_i32_431 : BitVec 32 := 0#32
  let v419 : BitVec 1 := Scalar.cmpi .sgt arg15 c0_i32_431
  let v420 : BitVec 32 := Scalar.extui v419
  let c0_i32_432 : BitVec 32 := 0#32
  let v421 : BitVec 1 := Scalar.cmpi .slt arg15 c0_i32_432
  let v422 : BitVec 32 := Scalar.extui v421
  let v423 : BitVec 32 := Scalar.subi v420 v422
  let c4_i32_430 : BitVec 32 := 4#32
  let c0_i32_433 : BitVec 32 := 0#32
  let v424 : BitVec 1 := Scalar.cmpi .sgt c4_i32_430 c0_i32_433
  let v425 : BitVec 32 := Scalar.extui v424
  let c0_i32_434 : BitVec 32 := 0#32
  let v426 : BitVec 1 := Scalar.cmpi .slt c4_i32_430 c0_i32_434
  let v427 : BitVec 32 := Scalar.extui v426
  let v428 : BitVec 32 := Scalar.subi v425 v427
  let v429 : BitVec 1 := Scalar.cmpi .ne v423 v428
  let v430 : BitVec 32 := Scalar.remsi arg15 c4_i32_430
  let c0_i32_435 : BitVec 32 := 0#32
  let v431 : BitVec 1 := Scalar.cmpi .ne v430 c0_i32_435
  let v432 : BitVec 1 := Scalar.andi v429 v431
  let v418 : BitVec 32 := Scalar.divsi arg15 c4_i32_430
  let c1_i32_436 : BitVec 32 := 1#32
  let v433 : BitVec 32 := Scalar.subi v418 c1_i32_436
  let v434 : BitVec 32 := Scalar.select v432 v433 v418
  let v462 : BitVec 32 := Scalar.addi c16_i32_445 v434
  let v463 : Index := Scalar.indexCast v462
  let c4_i32_437 : BitVec 32 := 4#32
  let c0_i32_438 : BitVec 32 := 0#32
  let v435 : BitVec 1 := Scalar.cmpi .eq c4_i32_437 c0_i32_438
  let c1_i32_439 : BitVec 32 := 1#32
  let v436 : BitVec 32 := Scalar.select v435 c1_i32_439 c4_i32_437
  let v437 : BitVec 32 := Scalar.remsi arg15 v436
  let c0_i32_441 : BitVec 32 := 0#32
  let v439 : BitVec 1 := Scalar.cmpi .slt v437 c0_i32_441
  let c0_i32_442 : BitVec 32 := 0#32
  let v440 : BitVec 1 := Scalar.cmpi .slt v436 c0_i32_442
  let v441 : BitVec 1 := Scalar.xori v439 v440
  let c0_i32_440 : BitVec 32 := 0#32
  let v438 : BitVec 1 := Scalar.cmpi .ne v437 c0_i32_440
  let v442 : BitVec 1 := Scalar.andi v441 v438
  let v443 : BitVec 32 := Scalar.addi v437 v436
  let v444 : BitVec 32 := Scalar.select v442 v443 v437
  let c128_i32 : BitVec 32 := 128#32
  let v445 : BitVec 32 := Scalar.muli v444 c128_i32
  let v446 : BitVec 32 := Scalar.addi v445 c0_i32_443
  let v464 : Index := Scalar.indexCast v446
  ![v463.toNat, v464.toNat]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_427 : BitVec 32 := 16#32
  let v415 : BitVec 32 := Scalar.muli v1 c16_i32_427
  ![v415.toNat]
def k0_off16 (i : grid0.Coords) : Fin 1 → Nat :=
  let c512_i32_429 : BitVec 32 := 512#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_428 : BitVec 32 := 16#32
  let v416 : BitVec 32 := Scalar.muli v1 c16_i32_428
  let v417 : BitVec 32 := Scalar.addi c512_i32_429 v416
  ![v417.toNat]
abbrev grid1 : Pipeline.Grid := ⟨1, ![12], ![false]⟩

def k1_cond2 (i : grid1.Coords) : BitVec 1 :=
  let arg0 : BitVec 32 := BitVec.ofNat 32 (i 0).val
  let c11_i32 : BitVec 32 := 11#32
  let v32 : BitVec 1 := Scalar.cmpi .eq arg0 c11_i32
  let v33 : BitVec 32 := Scalar.extui v32
  let c0_i32_18 : BitVec 32 := 0#32
  let v34 : BitVec 1 := Scalar.cmpi .ne v33 c0_i32_18
  v34

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S1x3x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3x512x512 : Shape := ⟨4, ![16, 3, 512, 512]⟩
abbrev S16x1x512x512 : Shape := ⟨4, ![16, 1, 512, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x512x512, .i1⟩
  | .hbm, ⟨3, _⟩ => ⟨S16x1x512x512, .i1⟩
  | .hbm, ⟨4, _⟩ => ⟨S16x3x512x512, .i1⟩
  | .hbm, ⟨5, _⟩ => ⟨S16x3x512x512, .i32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S16x3x512x512, .f32⟩
  | .hbm, ⟨10, _⟩ => ⟨S16x3x512x512, .f32⟩
  | .hbm, ⟨11, _⟩ => ⟨S_, .f32⟩
  | .hbm, ⟨12, _⟩ => ⟨S_, .f32⟩
  | .hbm, ⟨13, _⟩ => ⟨S16x3x512x512, .f32⟩
  | .hbm, ⟨14, _⟩ => ⟨S16x3x512x512, .f32⟩
  | .hbm, ⟨15, _⟩ => ⟨S_, .f32⟩
  | .hbm, ⟨16, _⟩ => ⟨S_, .f32⟩
  | .hbm, ⟨17, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Base.lean ====
/-
  The set-up that the other modules share: the program as a launch with SparseCores sees it, the resource algebra,
  the embeddings of the libraries' ghost state, the threads, and the buffers by name.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Batch
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

/-- The handshakes' rounds are the left factor. -/
abbrev EH : Emb UH (MM F) := embL
/-- The pipelines' rounds are the middle factor. -/
abbrev EP : Emb UP (MM F) := (Emb.inl : Emb UP (UP × Counters)).trans embR

instance EP_landsIn : (EP : Emb UP (MM F)).LandsIn (upEmb : UEmb _ (MM F)) := by
  unfold EP; infer_instance

end Cert.Proof
-- ==== Proof.Trip.lean ====
/-
  One trip of the loop that a tile runs over a block: sixteen rows of 512 pixels, 128 pixels a trip, in eight groups
  of sixteen lanes. The trip's value is stated as a pure function of the block's three buffers, and the four loops of
  the body, which are one loop over two sets of scratch buffers, are shown to run it.
-/
module

public import proofs.«01_k».proof.Proof.Base

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- Sixteen lanes. -/
abbrev L16 (F : FTy → Type) : Type := FVec F S16 .f32
/-- What a loop carries: two sums of squares and two counts. -/
abbrev Car (F : FTy → Type) : Type := L16 F × L16 F × L16 F × L16 F

/-- The thread of the tile with grid coordinates `i`. -/
abbrev tile (d : Dev nD) (i : grid0.Coords) : Thread nD τ := V d (Fin.castLE hcore0 (i 0)) (Fin.castLE hsub0 (i 1))

/-- The sixteen words of `X` in the one-row window at `off`, as lanes. -/
def lanes {s : Shape} (X : s.Idx → F .f32) (r : Rect s) (h : r.shape.ShapeCasts S16) : L16 F :=
  shapeCast S16 (fun x => X (r.idx x)) h

/-- Group `u` of trip `k`: one minus the mask's words. -/
def keepG (M : S16x512.Idx → F .f32) (k : Fin k0_t1_loop.trips) (u : Fin 8) : L16 F :=
  subf (broadcast S16 (Scalar.ofBits .f32 0x3F800000#32))
    (lanes M (Rect.unit (s := S16x512) (k0_off3 k (BitVec.ofNat 32 (16 * u.val))) S1x16.size (k0_off3_inb k u)) shapeCasts_S1x16_S16)

/-- The difference of the two arrays in the first channel's rows, -/
def diffG0 (P T : S48x512.Idx → F .f32) (k : Fin k0_t1_loop.trips) (u : Fin 8) : L16 F :=
  subf (lanes T (Rect.unit (s := S48x512) (k0_off4 k (BitVec.ofNat 32 (16 * u.val))) S1x16.size (k0_off4_inb k u)) shapeCasts_S1x16_S16)
    (lanes P (Rect.unit (s := S48x512) (k0_off4 k (BitVec.ofNat 32 (16 * u.val))) S1x16.size (k0_off4_inb k u)) shapeCasts_S1x16_S16)

/-- and in the second's (`r = 0`) or the third's (`r = 1`). -/
def diffG (P T : S48x512.Idx → F .f32) (k : Fin k0_t1_loop.trips) (u : Fin 8) (r : Fin 2) : L16 F :=
  subf (lanes T (Rect.unit (s := S48x512) (k0_off5 k (BitVec.ofNat 32 (16 + 16 * r.val)) (BitVec.ofNat 32 (16 * u.val))) S1x16.size (k0_off5_inb k r u)) shapeCasts_S1x16_S16)
    (lanes P (Rect.unit (s := S48x512) (k0_off5 k (BitVec.ofNat 32 (16 + 16 * r.val)) (BitVec.ofNat 32 (16 * u.val))) S1x16.size (k0_off5_inb k r u)) shapeCasts_S1x16_S16)

/-- The group's sum over the three channels of the squared differences, times what is kept. -/
def termG (M : S16x512.Idx → F .f32) (P T : S48x512.Idx → F .f32) (k : Fin k0_t1_loop.trips) (u : Fin 8) : L16 F :=
  mulf (addf (addf (mulf (diffG0 P T k u) (diffG0 P T k u)) (mulf (diffG P T k u 0) (diffG P T k u 0))) (mulf (diffG P T k u 1) (diffG P T k u 1)))
    (keepG M k u)

/-- A trip: the even groups added to the first sum and the first count, the odd groups to the second ones. -/
def trip (M : S16x512.Idx → F .f32) (P T : S48x512.Idx → F .f32) (k : Fin k0_t1_loop.trips) (z : Car F) : Car F :=
  (addf (addf (addf (addf z.1 (termG M P T k 0)) (termG M P T k 2)) (termG M P T k 4)) (termG M P T k 6),
    addf (addf (addf (addf z.2.1 (termG M P T k 1)) (termG M P T k 3)) (termG M P T k 5)) (termG M P T k 7),
    addf (addf (addf (addf z.2.2.1 (keepG M k 0)) (keepG M k 2)) (keepG M k 4)) (keepG M k 6),
    addf (addf (addf (addf z.2.2.2 (keepG M k 1)) (keepG M k 3)) (keepG M k 5)) (keepG M k 7))

/-- The first `n` trips from `z`. -/
def trips (M : S16x512.Idx → F .f32) (P T : S48x512.Idx → F .f32) (z : Car F) : ℕ → Car F
  | 0 => z
  | n + 1 => if h : n < k0_t1_loop.trips then trip M P T ⟨n, h⟩ (trips M P T z n) else trips M P T z n

theorem trips_succ (M : S16x512.Idx → F .f32) (P T : S48x512.Idx → F .f32) (z : Car F) (k : Fin k0_t1_loop.trips) :
    trips M P T z (k.val + 1) = trip M P T k (trips M P T z k.val) := by
  rw [trips, dif_pos k.isLt]

section Body

variable (d : Dev nD) (i : grid0.Coords)
  (arg2 : Memref sig .scVector .hbm S24576x512 .f32) (harg2 : arg2.IsWhole) (arg3 : Memref sig .scVector .hbm S24576x512 .f32) (harg3 : arg3.IsWhole)
  (arg4 : Memref sig .scVector .hbm S2048x512 .f32) (harg4 : arg4.IsWhole) (arg5 : Memref sig .scVector .hbm S1024 .f32) (harg5 : arg5.IsWhole)
  (arg6 : Memref sig .scVector .vmem S16x512 .f32) (harg6 : arg6.IsWhole) (arg7 : Memref sig .scVector .vmem S16x512 .f32) (harg7 : arg7.IsWhole)
  (arg8 : Memref sig .scVector .vmem S48x512 .f32) (harg8 : arg8.IsWhole) (arg9 : Memref sig .scVector .vmem S48x512 .f32) (harg9 : arg9.IsWhole)
  (arg10 : Memref sig .scVector .vmem S48x512 .f32) (harg10 : arg10.IsWhole) (arg11 : Memref sig .scVector .vmem S48x512 .f32) (harg11 : arg11.IsWhole)
  (arg12 : Memref sig .scVector .vmem S32 .f32) (harg12 : arg12.IsWhole) (s0 s1 r0 r1 : DmaSems sig S_)

omit [FloatOps F] in
theorem of_value {α : Type} {x y : α} (Q : α → sProp 𝕄) (h : x = y) : Q x ⊢ Q y := Entails.of_eq (congrArg Q h)

/-- A trip of the first loop reads the three buffers and returns `trip` of what they hold. -/
theorem trip_wp (v1 : BitVec 32) (v2 : L16 F) (k : Fin k0_t1_loop.trips) (z : Car F)
    (fm : Buf (Elt F) (arg6.view.loc (tile d i))) (fp : Buf (Elt F) (arg8.view.loc (tile d i))) (ft : Buf (Elt F) (arg10.view.loc (tile d i)))
    (Q : Car F → sProp 𝕄) :
    iprop((arg6.view.loc (tile d i) ↦[arg6.view.set]{fullShare} fm) ∗ (arg8.view.loc (tile d i) ↦[arg8.view.set]{fullShare} fp)
        ∗ (arg10.view.loc (tile d i) ↦[arg10.view.set]{fullShare} ft)
        ∗ (iprop((arg6.view.loc (tile d i) ↦[arg6.view.set]{fullShare} fm) ∗ (arg8.view.loc (tile d i) ↦[arg8.view.set]{fullShare} fp)
            ∗ (arg10.view.loc (tile d i) ↦[arg10.view.set]{fullShare} ft))
          -∗ Q (trip (arg6.view.read (Elt F) fm) (arg8.view.read (Elt F) fp) (arg10.view.read (Elt F) ft) k z)))
      ⊢ wp frame (wpE defs₀ 𝒱₀ (tile d i) none) Set.univ
          (k0_t1_body i arg2 harg2 arg3 harg3 arg4 harg4 arg5 harg5 arg6 harg6 arg7 harg7 arg8 harg8 arg9 harg9 arg10 harg10 arg11 harg11 arg12 harg12 s0 s1 r0 r1 v1 v2 k z) Q := by
  obtain ⟨a, b, c, e⟩ := z
  unfold k0_t1_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  iintro ⟨Hm, Hp, Ht, HQ⟩
  sl_exec
  rw [wp_ret]
  imodintro
  ispecialize HQ $$ [Hm Hp Ht]
  · isplitl [Hm]; · iexact Hm
    isplitl [Hp]; · iexact Hp
    iexact Ht
  iapply (of_value Q ?e) $$ HQ
  case e => rfl

/-- Between two trips: the sums so far, and the three buffers as they were. -/
def loopInv (z : Car F)
    (fm : Buf (Elt F) (arg6.view.loc (tile d i))) (fp : Buf (Elt F) (arg8.view.loc (tile d i))) (ft : Buf (Elt F) (arg10.view.loc (tile d i)))
    (k : ℕ) (z' : Car F) : sProp 𝕄 :=
  iprop(⌜z' = trips (arg6.view.read (Elt F) fm) (arg8.view.read (Elt F) fp) (arg10.view.read (Elt F) ft) z k⌝
    ∗ (arg6.view.loc (tile d i) ↦[arg6.view.set]{fullShare} fm) ∗ (arg8.view.loc (tile d i) ↦[arg8.view.set]{fullShare} fp)
    ∗ (arg10.view.loc (tile d i) ↦[arg10.view.set]{fullShare} ft))

/-- The sixty-four trips, over the three buffers. -/
theorem loop_wp (v1 : BitVec 32) (v2 : L16 F) (z : Car F)
    (fm : Buf (Elt F) (arg6.view.loc (tile d i))) (fp : Buf (Elt F) (arg8.view.loc (tile d i))) (ft : Buf (Elt F) (arg10.view.loc (tile d i)))
    (Q : Car F → sProp 𝕄) :
    iprop((arg6.view.loc (tile d i) ↦[arg6.view.set]{fullShare} fm) ∗ (arg8.view.loc (tile d i) ↦[arg8.view.set]{fullShare} fp)
        ∗ (arg10.view.loc (tile d i) ↦[arg10.view.set]{fullShare} ft)
        ∗ (iprop((arg6.view.loc (tile d i) ↦[arg6.view.set]{fullShare} fm) ∗ (arg8.view.loc (tile d i) ↦[arg8.view.set]{fullShare} fp)
            ∗ (arg10.view.loc (tile d i) ↦[arg10.view.set]{fullShare} ft))
          -∗ Q (trips (arg6.view.read (Elt F) fm) (arg8.view.read (Elt F) fp) (arg10.view.read (Elt F) ft) z k0_t1_loop.trips)))
      ⊢ wp frame (wpE defs₀ 𝒱₀ (tile d i) none) Set.univ
          (Scf.Loop.for k0_t1_loop k0_t1_ok z (k0_t1_body i arg2 harg2 arg3 harg3 arg4 harg4 arg5 harg5 arg6 harg6 arg7 harg7 arg8 harg8 arg9 harg9 arg10 harg10 arg11 harg11 arg12 harg12 s0 s1 r0 r1 v1 v2)) Q := by
  iintro ⟨Hm, Hp, Ht, HQ⟩
  sl_for (loopInv d i arg6 arg8 arg10 z fm fp ft) $$ [Hm Hp Ht HQ]
  case region =>
    intro k z'
    unfold loopInv
    iintro ⟨%hz, Hm, Hp, Ht⟩
    iapply (trip_wp d i arg2 harg2 arg3 harg3 arg4 harg4 arg5 harg5 arg6 harg6 arg7 harg7 arg8 harg8 arg9 harg9 arg10 harg10 arg11 harg11
      arg12 harg12 s0 s1 r0 r1 v1 v2 k z' fm fp ft)
    isplitl [Hm]; · iexact Hm
    isplitl [Hp]; · iexact Hp
    isplitl [Ht]; · iexact Ht
    iintro ⟨Hm, Hp, Ht⟩
    isplitr
    · ipureintro; rw [trips_succ, hz]
    isplitl [Hm]; · iexact Hm
    isplitl [Hp]; · iexact Hp
    iexact Ht
  isplitl [Hm Hp Ht]
  · unfold loopInv
    isplitr
    · ipureintro; rfl
    isplitl [Hm]; · iexact Hm
    isplitl [Hp]; · iexact Hp
    iexact Ht
  iintro %z' HI
  unfold loopInv
  icases HI with ⟨%hz, Hm, Hp, Ht⟩
  subst hz
  iapply HQ
  isplitl [Hm]; · iexact Hm
  isplitl [Hp]; · iexact Hp
  iexact Ht

set_option maxRecDepth 65536 in
/-- The second loop is the first one over the other set of scratch buffers; -/
theorem for2_eq (v1 : BitVec 32) (v2 a b c e : L16 F) (z : Car F) :
    Scf.Loop.for k0_t2_loop k0_t2_ok z (k0_t2_body i arg2 harg2 arg3 harg3 arg4 harg4 arg5 harg5 arg6 harg6 arg7 harg7 arg8 harg8 arg9 harg9 arg10 harg10 arg11 harg11 arg12 harg12 s0 s1 r0 r1 v1 a b c e 0#32 1#32)
      = Scf.Loop.for k0_t1_loop k0_t1_ok z (k0_t1_body i arg2 harg2 arg3 harg3 arg4 harg4 arg5 harg5 arg7 harg7 arg6 harg6 arg9 harg9 arg8 harg8 arg11 harg11 arg10 harg10 arg12 harg12 s0 s1 r0 r1 v1 v2) := rfl

set_option maxRecDepth 65536 in
/-- so is the fourth; -/
theorem for4_eq (v1 : BitVec 32) (v2 : L16 F) (z : Car F) :
    Scf.Loop.for k0_t4_loop k0_t4_ok z (k0_t4_body i arg2 harg2 arg3 harg3 arg4 harg4 arg5 harg5 arg6 harg6 arg7 harg7 arg8 harg8 arg9 harg9 arg10 harg10 arg11 harg11 arg12 harg12 s0 s1 r0 r1 0#32)
      = Scf.Loop.for k0_t1_loop k0_t1_ok z (k0_t1_body i arg2 harg2 arg3 harg3 arg4 harg4 arg5 harg5 arg7 harg7 arg6 harg6 arg9 harg9 arg8 harg8 arg11 harg11 arg10 harg10 arg12 harg12 s0 s1 r0 r1 v1 v2) := rfl

set_option maxRecDepth 65536 in
/-- and the third is over the same set. -/
theorem for3_eq (v1 : BitVec 32) (v2 a b c e : L16 F) (z : Car F) :
    Scf.Loop.for k0_t3_loop k0_t3_ok z (k0_t3_body i arg2 harg2 arg3 harg3 arg4 harg4 arg5 harg5 arg6 harg6 arg7 harg7 arg8 harg8 arg9 harg9 arg10 harg10 arg11 harg11 arg12 harg12 s0 s1 r0 r1 a b c e)
      = Scf.Loop.for k0_t1_loop k0_t1_ok z (k0_t1_body i arg2 harg2 arg3 harg3 arg4 harg4 arg5 harg5 arg6 harg6 arg7 harg7 arg8 harg8 arg9 harg9 arg10 harg10 arg11 harg11 arg12 harg12 s0 s1 r0 r1 v1 v2) := rfl

end Body

end Cert.Proof
-- ==== Proof.Windows.lean ====
/-
  A buffer of 48 rows held as three windows of sixteen rows, one per channel: the windows are what the transfers land
  in, the whole buffer is what the loops read.
-/
module

public import proofs.«01_k».proof.Proof.Trip

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F

/-- The element of a sixteen-row block at row `r` and column `c`. -/
def at16 (r c : ℕ) (hr : r < 16) (hc : c < 512) : S16x512.Idx := fun | 0 => ⟨r, hr⟩ | 1 => ⟨c, hc⟩

/-- Three sixteen-row blocks, one above the other. -/
def stack {α : Type} (X : Fin 3 → S16x512.Idx → α) : S48x512.Idx → α := fun x =>
  X ⟨(x 0).val / 16, (Nat.div_lt_iff_lt_mul (by decide)).2 (x 0).isLt⟩
    (at16 ((x 0).val % 16) (x 1).val (Nat.mod_lt _ (by decide)) (x 1).isLt)

theorem rows_inb (t : Fin 3) : ∀ a, (![16 * t.val, 0] : Fin 2 → ℕ) a + S16x512.size a ≤ S48x512.size a := by
  revert t; decide

/-- The rows of channel `t`. -/
abbrev rows (t : Fin 3) : Rect S48x512 := Rect.unit (s := S48x512) ![16 * t.val, 0] S16x512.size (rows_inb t)

theorem rows_idx (x : S48x512.Idx) :
    (rows ⟨(x 0).val / 16, (Nat.div_lt_iff_lt_mul (by decide)).2 (x 0).isLt⟩).idx
      (at16 ((x 0).val % 16) (x 1).val (Nat.mod_lt _ (by decide)) (x 1).isLt) = x := by
  funext a
  apply Fin.ext
  fin_cases a
  · show 16 * ((x 0).val / 16) + 1 * ((x 0).val % 16) = (x 0).val
    omega
  · show 0 + 1 * (x 1).val = (x 1).val
    omega

theorem rows_disjoint {t t' : Fin 3} (h : t ≠ t') : Disjoint (rows t).set (rows t').set := by
  refine Rect.disjoint_of_separated _ _ (0 : Fin 2) ?_
  have := Fin.val_ne_of_ne h
  rcases Nat.lt_or_gt_of_ne this with h | h
  · left; right; show 16 * t.val + 1 * (16 - 1) < 16 * t'.val; omega
  · right; right; show 16 * t'.val + 1 * (16 - 1) < 16 * t.val; omega

section

variable (d : Dev nD) (i : grid0.Coords) (m : Memref sig .scVector .vmem S48x512 .f32)

/-- The elements of channel `t`'s window. -/
abbrev rowSet (t : Fin 3) : Finset (Idx (m.view.loc (tile d i))) := (m.view.slice (rows t)).set

theorem rowSet_disjoint {t t' : Fin 3} (h : t ≠ t') : Disjoint (rowSet d i m t) (rowSet d i m t') := by
  unfold rowSet
  rw [View.set_slice, View.set_slice, Finset.disjoint_map]
  exact rows_disjoint h

theorem rowSet_cover : (Finset.univ : Finset (Fin 3)).biUnion (rowSet d i m) = m.view.set := by
  apply Finset.Subset.antisymm
  · exact Finset.biUnion_subset.2 fun t _ => m.view.set_slice_subset (rows t)
  · intro j hj
    obtain ⟨x, -, rfl⟩ := Finset.mem_map.1 hj
    refine Finset.mem_biUnion.2 ⟨⟨(x 0).val / 16, (Nat.div_lt_iff_lt_mul (by decide)).2 (x 0).isLt⟩, Finset.mem_univ _, ?_⟩
    unfold rowSet
    rw [View.set_slice]
    refine Finset.mem_map.2 ⟨x, ?_, rfl⟩
    have h := LoadRect.idx_mem (rows ⟨(x 0).val / 16, (Nat.div_lt_iff_lt_mul (by decide)).2 (x 0).isLt⟩).toLoadRect
      (at16 ((x 0).val % 16) (x 1).val (Nat.mod_lt _ (by decide)) (x 1).isLt)
    rwa [rows_idx x] at h

/-- The window of the sixteen rows from `r`, held at `f`. -/
def rowPts (r : ℕ) (h : ∀ a, (![r, 0] : Fin 2 → ℕ) a + S16x512.size a ≤ S48x512.size a) (f : Buf (Elt F) (m.view.loc (tile d i))) : sProp 𝕄 :=
  (m.slice (Rect.unit (s := S48x512) ![r, 0] S16x512.size h) (fun _ => rfl)).view.loc (tile d i)
    ↦[(m.slice (Rect.unit (s := S48x512) ![r, 0] S16x512.size h) (fun _ => rfl)).view.set]{fullShare} f

/-- The three windows, each at contents of its own. -/
def rowsPts (f g h : Buf (Elt F) (m.view.loc (tile d i))) : sProp 𝕄 :=
  iprop(rowPts d i m 0 inb_S48x512_S16x512_0_0 f ∗ rowPts d i m 16 inb_S48x512_S16x512_16_0 g ∗ rowPts d i m 32 inb_S48x512_S16x512_32_0 h)

/-- The whole buffer is its three windows. -/
theorem rows_split (f : Buf (Elt F) (m.view.loc (tile d i))) :
    (m.view.loc (tile d i) ↦[m.view.set]{fullShare} f : sProp 𝕄) ⊢ rowsPts d i m f f f := by
  rw [← rowSet_cover d i m, pointsTo_biUnion _ _ fun t _ t' _ h => rowSet_disjoint d i m h,
    show (Finset.univ : Finset (Fin 3)) = {0, 1, 2} by decide, SparseCore.bigSep_insert' (by decide), SparseCore.bigSep_insert' (by decide), bigSep_singleton]
  exact .rfl

/-- Three windows, each at contents of its own, are the whole buffer; it reads as the three blocks stacked. -/
theorem rows_join (f : Fin 3 → Buf (Elt F) (m.view.loc (tile d i))) (X : Fin 3 → S16x512.Idx → F .f32)
    (hX : ∀ t, (m.view.slice (rows t)).read (Elt F) (f t) = X t) :
    rowsPts d i m (f 0) (f 1) (f 2)
      ⊢ (iprop(∃ g, ⌜m.view.read (Elt F) g = stack X⌝ ∗ (m.view.loc (tile d i) ↦[m.view.set]{fullShare} g)) : sProp 𝕄) := by
  have hj := pointsTo_biUnion_join (Ix := HIx 1) (Name := ℕ) (U := UU) (Lvl := ℕ) (Val := Elt F) (ℓ := m.view.loc (tile d i)) (q := fullShare)
    (Finset.univ : Finset (Fin 3)) (rowSet d i m) f (f 0) fun t _ t' _ h => rowSet_disjoint d i m h
  rw [rowSet_cover d i m, show (Finset.univ : Finset (Fin 3)) = {0, 1, 2} by decide, SparseCore.bigSep_insert' (by decide),
    SparseCore.bigSep_insert' (by decide), bigSep_singleton] at hj
  refine (show rowsPts d i m (f 0) (f 1) (f 2) ⊢ _ from hj).trans ?_
  iintro H
  icases H with ⟨%g, %hg, H⟩
  iexists g
  isplitr
  · ipureintro
    funext x
    have htt : ∀ t : Fin 3, t ∈ ({0, 1, 2} : Finset (Fin 3)) := by decide
    let t : Fin 3 := ⟨(x 0).val / 16, (Nat.div_lt_iff_lt_mul (by decide)).2 (x 0).isLt⟩
    let y := at16 ((x 0).val % 16) (x 1).val (Nat.mod_lt _ (by decide)) (x 1).isLt
    have hy : (rows t).idx y = x := rows_idx x
    have h1 : m.view.read (Elt F) g x = (m.view.slice (rows t)).read (Elt F) (f t) y := by
      show _root_.cast _ (g (m.view.emb x)) = _root_.cast _ (f t (m.view.emb ((rows t).idx y)))
      rw [hy, hg t (htt t) _ ?_]
      unfold rowSet
      rw [View.set_slice]
      refine Finset.mem_map.2 ⟨x, ?_, rfl⟩
      rw [← hy]; exact LoadRect.idx_mem _ _
    rw [h1, hX]; rfl
  · iexact H

end

end Cert.Proof
-- ==== Proof.Body.lean ====
/-
  One tile's run. It brings in its four blocks of rows, two sets of scratch buffers in turn, sums over each, and sends
  its sixteen lanes of loss and its sixteen lanes of count to its places of the partial sums.
-/
module

public import proofs.«01_k».proof.Proof.Windows

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- The mask rows of block `b` of the tile at `i`. -/
def blkM (X : S2048x512.Idx → F .f32) (i : grid0.Coords) (b : Fin 4) : S16x512.Idx → F .f32 := fun x =>
  X ((Rect.unit (s := S2048x512) (k0_off1 i (BitVec.ofNat 32 b.val)) S16x512.size (k0_off1_inb i b)).idx x)

/-- The rows of channel `c` of block `b` of the tile at `i`. -/
def blkC (X : S24576x512.Idx → F .f32) (i : grid0.Coords) (b : Fin 4) (c : Fin 3) : S16x512.Idx → F .f32 := fun x =>
  X ((Rect.unit (s := S24576x512) (k0_off2 i (BitVec.ofNat 32 b.val) (BitVec.ofNat 32 c.val)) S16x512.size (k0_off2_inb i b c)).idx x)

/-- The four sums after block `b`. -/
def blkStep (M : S2048x512.Idx → F .f32) (P T : S24576x512.Idx → F .f32) (i : grid0.Coords) (b : Fin 4) (z : Car F) : Car F :=
  trips (blkM M i b) (stack (blkC P i b)) (stack (blkC T i b)) z k0_t1_loop.trips

/-- The four sums at the start. -/
def car0 : Car F := (k0_pay137, k0_pay137, k0_pay137, k0_pay137)

/-- The four sums after the tile's four blocks. -/
def tileCar (M : S2048x512.Idx → F .f32) (P T : S24576x512.Idx → F .f32) (i : grid0.Coords) : Car F :=
  blkStep M P T i 3 (blkStep M P T i 2 (blkStep M P T i 1 (blkStep M P T i 0 car0)))

/-- The sixteen lanes of loss; -/
def tileLoss (M : S2048x512.Idx → F .f32) (P T : S24576x512.Idx → F .f32) (i : grid0.Coords) : L16 F :=
  k0_pay150 (tileCar M P T i).1 (tileCar M P T i).2.1

/-- and of count. -/
def tileCount (M : S2048x512.Idx → F .f32) (P T : S24576x512.Idx → F .f32) (i : grid0.Coords) : L16 F :=
  k0_pay151 (tileCar M P T i).2.2.1 (tileCar M P T i).2.2.2

section Body

variable (d : Dev nD) (i : grid0.Coords)
  (arg2 : Memref sig .scVector .hbm S24576x512 .f32) (harg2 : arg2.IsWhole) (arg3 : Memref sig .scVector .hbm S24576x512 .f32) (harg3 : arg3.IsWhole)
  (arg4 : Memref sig .scVector .hbm S2048x512 .f32) (harg4 : arg4.IsWhole) (arg5 : Memref sig .scVector .hbm S1024 .f32) (harg5 : arg5.IsWhole)
  (arg6 : Memref sig .scVector .vmem S16x512 .f32) (harg6 : arg6.IsWhole) (arg7 : Memref sig .scVector .vmem S16x512 .f32) (harg7 : arg7.IsWhole)
  (arg8 : Memref sig .scVector .vmem S48x512 .f32) (harg8 : arg8.IsWhole) (arg9 : Memref sig .scVector .vmem S48x512 .f32) (harg9 : arg9.IsWhole)
  (arg10 : Memref sig .scVector .vmem S48x512 .f32) (harg10 : arg10.IsWhole) (arg11 : Memref sig .scVector .vmem S48x512 .f32) (harg11 : arg11.IsWhole)
  (arg12 : Memref sig .scVector .vmem S32 .f32) (harg12 : arg12.IsWhole) (s0 s1 r0 r1 : DmaSems sig S_)

/-- One loop, over buffers whose windows have just been filled: it sums over the three blocks that landed, and leaves
    the windows apart again for the next transfers. -/
theorem block_wp (v1 : BitVec 32) (v2 : L16 F) (z : Car F)
    (fm : Buf (Elt F) (arg6.view.loc (tile d i))) (p0 p1 p2 : Buf (Elt F) (arg8.view.loc (tile d i))) (t0 t1 t2 : Buf (Elt F) (arg10.view.loc (tile d i)))
    (M : S16x512.Idx → F .f32) (P T : Fin 3 → S16x512.Idx → F .f32)
    (hM : arg6.view.read (Elt F) fm = M)
    (hp0 : (arg8.view.slice (rows 0)).read (Elt F) p0 = P 0) (hp1 : (arg8.view.slice (rows 1)).read (Elt F) p1 = P 1) (hp2 : (arg8.view.slice (rows 2)).read (Elt F) p2 = P 2)
    (ht0 : (arg10.view.slice (rows 0)).read (Elt F) t0 = T 0) (ht1 : (arg10.view.slice (rows 1)).read (Elt F) t1 = T 1) (ht2 : (arg10.view.slice (rows 2)).read (Elt F) t2 = T 2)
    (prog : Prog (TpuEff nD τ sig (Elt F) Λ₀ (.scVector ((i 0).castLE hcore0) ((i 1).castLE hsub0))) (Car F))
    (hprog : prog = Scf.Loop.for k0_t1_loop k0_t1_ok z (k0_t1_body i arg2 harg2 arg3 harg3 arg4 harg4 arg5 harg5 arg6 harg6 arg7 harg7 arg8 harg8 arg9 harg9 arg10 harg10 arg11 harg11 arg12 harg12 s0 s1 r0 r1 v1 v2))
    (Q : Car F → sProp 𝕄) :
    iprop((arg6.view.loc (tile d i) ↦[arg6.view.set]{fullShare} fm) ∗ rowsPts d i arg8 p0 p1 p2 ∗ rowsPts d i arg10 t0 t1 t2
        ∗ (iprop((arg6.view.loc (tile d i) ↦[arg6.view.set]{fullShare} fm) ∗ (∃ p, rowsPts d i arg8 p p p) ∗ (∃ t, rowsPts d i arg10 t t t))
          -∗ Q (trips M (stack P) (stack T) z k0_t1_loop.trips)))
      ⊢ wp frame (wpE defs₀ 𝒱₀ (tile d i) none) Set.univ prog Q := by
  subst hprog
  iintro ⟨Hm, Hp, Ht, HQ⟩
  ihave Hp' := (show rowsPts d i arg8 p0 p1 p2 ⊢ _ from rows_join d i arg8 ![p0, p1, p2] P (by intro t; fin_cases t; exacts [hp0, hp1, hp2])) $$ Hp
  ihave Ht' := (show rowsPts d i arg10 t0 t1 t2 ⊢ _ from rows_join d i arg10 ![t0, t1, t2] T (by intro t; fin_cases t; exacts [ht0, ht1, ht2])) $$ Ht
  icases Hp' with ⟨%p, %hp, Hp⟩
  icases Ht' with ⟨%t, %ht, Ht⟩
  iapply (loop_wp d i arg2 harg2 arg3 harg3 arg4 harg4 arg5 harg5 arg6 harg6 arg7 harg7 arg8 harg8 arg9 harg9 arg10 harg10 arg11 harg11 arg12 harg12 s0 s1 r0 r1 v1 v2 z fm p t)
  isplitl [Hm]; · iexact Hm
  isplitl [Hp]; · iexact Hp
  isplitl [Ht]; · iexact Ht
  iintro ⟨Hm, Hp, Ht⟩
  rw [hM, hp, ht]
  iapply HQ
  isplitl [Hm]; · iexact Hm
  isplitl [Hp]
  · iexists p; iapply (rows_split d i arg8 p); iexact Hp
  · iexists t; iapply (rows_split d i arg10 t); iexact Ht

/-- The sixteen mask rows of one block, held for reading. -/
def winM (q : PosShare TreeShare) (f : Buf (Elt F) (arg4.view.loc (tile d i))) (b : BitVec 32)
    (h : ∀ a, (k0_off1 i b) a + S16x512.size a ≤ S2048x512.size a) : sProp 𝕄 :=
  (arg4.slice (Rect.unit (s := S2048x512) (k0_off1 i b) S16x512.size h) (fun _ => rfl)).view.loc (tile d i)
    ↦[(arg4.slice (Rect.unit (s := S2048x512) (k0_off1 i b) S16x512.size h) (fun _ => rfl)).view.set]{q} f

/-- The sixteen rows of one block and one channel, held for reading. -/
def winC (m : Memref sig .scVector .hbm S24576x512 .f32) (q : PosShare TreeShare) (f : Buf (Elt F) (m.view.loc (tile d i))) (b c : BitVec 32)
    (h : ∀ a, (k0_off2 i b c) a + S16x512.size a ≤ S24576x512.size a) : sProp 𝕄 :=
  (m.slice (Rect.unit (s := S24576x512) (k0_off2 i b c) S16x512.size h) (fun _ => rfl)).view.loc (tile d i)
    ↦[(m.slice (Rect.unit (s := S24576x512) (k0_off2 i b c) S16x512.size h) (fun _ => rfl)).view.set]{q} f

/-- The seven windows that one block is read from. -/
def srcs (qm qp0 qp1 qp2 qt0 qt1 qt2 : PosShare TreeShare) (f2 : Buf (Elt F) (arg2.view.loc (tile d i))) (f3 : Buf (Elt F) (arg3.view.loc (tile d i)))
    (f4 : Buf (Elt F) (arg4.view.loc (tile d i))) (b : BitVec 32)
    (hm : ∀ a, (k0_off1 i b) a + S16x512.size a ≤ S2048x512.size a)
    (h0 : ∀ a, (k0_off2 i b 0#32) a + S16x512.size a ≤ S24576x512.size a)
    (h1 : ∀ a, (k0_off2 i b 1#32) a + S16x512.size a ≤ S24576x512.size a)
    (h2 : ∀ a, (k0_off2 i b 2#32) a + S16x512.size a ≤ S24576x512.size a) : sProp 𝕄 :=
  iprop(winM d i arg4 qm f4 b hm
    ∗ winC d i arg2 qp0 f2 b 0#32 h0 ∗ winC d i arg3 qt0 f3 b 0#32 h0
    ∗ winC d i arg2 qp1 f2 b 1#32 h1 ∗ winC d i arg3 qt1 f3 b 1#32 h1
    ∗ winC d i arg2 qp2 f2 b 2#32 h2 ∗ winC d i arg3 qt2 f3 b 2#32 h2)

/-- The sixteen lanes of the partial sums that the tile's loss goes to, held for writing; -/
def outL (f : Buf (Elt F) (arg5.view.loc (tile d i))) : sProp 𝕄 :=
  (arg5.slice (Rect.unit (s := S1024) (k0_off15 i) S16.size (k0_off15_inb i)) (fun _ => rfl)).view.loc (tile d i)
    ↦[(arg5.slice (Rect.unit (s := S1024) (k0_off15 i) S16.size (k0_off15_inb i)) (fun _ => rfl)).view.set]{fullShare} f

/-- and those that its count goes to. -/
def outC (f : Buf (Elt F) (arg5.view.loc (tile d i))) : sProp 𝕄 :=
  (arg5.slice (Rect.unit (s := S1024) (k0_off16 i) S16.size (k0_off16_inb i)) (fun _ => rfl)).view.loc (tile d i)
    ↦[(arg5.slice (Rect.unit (s := S1024) (k0_off16 i) S16.size (k0_off16_inb i)) (fun _ => rfl)).view.set]{fullShare} f

/-- The sixteen lanes at the start of the scratch row read what was stored there, a later store elsewhere or not; -/
theorem lanes_lo (f : Buf (Elt F) (arg12.view.loc (tile d i))) (x y : L16 F) :
    (arg12.slice (Rect.unit (s := S32) ![0] S16.size inb_S32_S16_0) (fun _ => rfl)).view.read (Elt F)
      (arg12.view.writes (Elt F) f [⟨Rect.unit (s := S32) ![16] S16.size inb_S32_S16_16, x⟩, ⟨Rect.unit (s := S32) ![0] S16.size inb_S32_S16_0, y⟩]) = y := by
  funext k
  show arg12.view.read (Elt F) _ ((Rect.unit (s := S32) ![0] S16.size inb_S32_S16_0).emb k) = y k
  rw [View.read_writes_cons_miss, View.read_writes_cons_emb]
  intro h
  obtain ⟨x, hx⟩ := LoadRect.exists_idx_of_mem _ h
  have h0 := congrArg (fun z : S32.Idx => (z 0).val) hx
  have hk : (k 0).val < 16 := (k 0).isLt
  change 16 + 1 * (x 0).val = 0 + 1 * (k 0).val at h0
  omega

/-- and so do the sixteen after them. -/
theorem lanes_hi (f : Buf (Elt F) (arg12.view.loc (tile d i))) (x y : L16 F) :
    (arg12.slice (Rect.unit (s := S32) ![16] S16.size inb_S32_S16_16) (fun _ => rfl)).view.read (Elt F)
      (arg12.view.writes (Elt F) f [⟨Rect.unit (s := S32) ![16] S16.size inb_S32_S16_16, x⟩, ⟨Rect.unit (s := S32) ![0] S16.size inb_S32_S16_0, y⟩]) = x := by
  funext k
  exact View.read_writes_cons_emb _ _ _ _ _ k

/-- The tile's scratch buffers, at some contents. -/
def scr : sProp 𝕄 :=
  iprop((∃ f, arg6.view.loc (tile d i) ↦[arg6.view.set]{fullShare} f) ∗ (∃ f, arg7.view.loc (tile d i) ↦[arg7.view.set]{fullShare} f)
    ∗ (∃ f, arg8.view.loc (tile d i) ↦[arg8.view.set]{fullShare} f) ∗ (∃ f, arg9.view.loc (tile d i) ↦[arg9.view.set]{fullShare} f)
    ∗ (∃ f, arg10.view.loc (tile d i) ↦[arg10.view.set]{fullShare} f) ∗ (∃ f, arg11.view.loc (tile d i) ↦[arg11.view.set]{fullShare} f)
    ∗ (∃ f, arg12.view.loc (tile d i) ↦[arg12.view.set]{fullShare} f))

/-- The tile's four semaphores, at zero. -/
def sems : sProp 𝕄 :=
  iprop(semVal (tile d i, SemLoc.dma s0.sem) 0 ∗ semVal (tile d i, SemLoc.dma s1.sem) 0
     ∗ semVal (tile d i, SemLoc.dma r0.sem) 0 ∗ semVal (tile d i, SemLoc.dma r1.sem) 0)

omit [FloatOps F] in
/-- Three windows at one contents are the whole buffer. -/
theorem rows_whole (m : Memref sig .scVector .vmem S48x512 .f32) (f : Buf (Elt F) (m.view.loc (tile d i))) :
    rowsPts d i m f f f ⊢ (iprop(∃ g, m.view.loc (tile d i) ↦[m.view.set]{fullShare} g) : sProp 𝕄) := by
  iintro H
  ihave H' := (show rowsPts d i m f f f ⊢ _ from rows_join d i m (fun _ => f) (fun t => (m.view.slice (rows t)).read (Elt F) f) (fun _ => rfl)) $$ H
  icases H' with ⟨%g, -, H⟩
  iexists g; iexact H

/-- A finished program has what it must leave. -/
theorem wp_done (Q : PUnit → sProp 𝕄) :
    Q ⟨⟩ ⊢ wp frame (wpE (defs₀ (F := F)) 𝒱₀ (tile d i) none) Set.univ (.ret ⟨⟩) Q := by
  rw [wp_ret]
  iintro H
  imodintro
  iexact H

set_option maxHeartbeats 4000000 in
/-- A tile's run: from its windows of the sources and its places of the partial sums, its scratch and its semaphores, it
    leaves its loss and its count there, and the rest as it was. -/
theorem tile_wp (O : CellTallies nD τ sig (HIx 1)) (W : Waits sig (HIx 1)) (q2 q3 : Fin 12 → PosShare TreeShare) (q4 : Fin 4 → PosShare TreeShare)
   (f2 : Buf (Elt F) (arg2.view.loc (tile d i))) (f3 : Buf (Elt F) (arg3.view.loc (tile d i))) (f4 : Buf (Elt F) (arg4.view.loc (tile d i)))
   (f5 f5' : Buf (Elt F) (arg5.view.loc (tile d i)))
   (_plan0 : Transfers.BatchOf (tile d i) (SemLoc.dma (sig := sig) s0.sem) 7)
   (_plan1 : Transfers.BatchOf (tile d i) (SemLoc.dma (sig := sig) s1.sem) 7)
   :
   iprop(Transfers.MayWaits (tile d i) (none : HIx 1) O ∗ owes (tile d i) O W
     ∗ sems d i s0 s1 r0 r1 ∗ scr d i arg6 arg7 arg8 arg9 arg10 arg11 arg12
     ∗ outL d i arg5 f5 ∗ outC d i arg5 f5'
     ∗ srcs d i arg2 arg3 arg4 (q4 0) (q2 0) (q2 1) (q2 2) (q3 0) (q3 1) (q3 2) f2 f3 f4 0#32 (k0_off1_inb i 0) (k0_off2_inb i 0 0) (k0_off2_inb i 0 1) (k0_off2_inb i 0 2)
     ∗ srcs d i arg2 arg3 arg4 (q4 1) (q2 3) (q2 4) (q2 5) (q3 3) (q3 4) (q3 5) f2 f3 f4 1#32 (k0_off1_inb i 1) (k0_off2_inb i 1 0) (k0_off2_inb i 1 1) (k0_off2_inb i 1 2)
     ∗ srcs d i arg2 arg3 arg4 (q4 2) (q2 6) (q2 7) (q2 8) (q3 6) (q3 7) (q3 8) f2 f3 f4 2#32 (k0_off1_inb i 2) (k0_off2_inb i 2 0) (k0_off2_inb i 2 1) (k0_off2_inb i 2 2)
     ∗ srcs d i arg2 arg3 arg4 (q4 3) (q2 9) (q2 10) (q2 11) (q3 9) (q3 10) (q3 11) f2 f3 f4 3#32 (k0_off1_inb i 3) (k0_off2_inb i 3 0) (k0_off2_inb i 3 1) (k0_off2_inb i 3 2))
     ⊢ wp frame (wpE defs₀ 𝒱₀ (tile d i) none) Set.univ
       (cc0__sc_body i arg2 harg2 arg3 harg3 arg4 harg4 arg5 harg5 arg6 harg6 arg7 harg7 arg8 harg8 arg9 harg9 arg10 harg10 arg11 harg11 arg12 harg12 s0 s1 r0 r1)
       fun _ => iprop((∃ g, ⌜(arg5.slice (Rect.unit (s := S1024) (k0_off15 i) S16.size (k0_off15_inb i)) (fun _ => rfl)).view.read (Elt F) g
             = tileLoss (arg4.view.read (Elt F) f4) (arg2.view.read (Elt F) f2) (arg3.view.read (Elt F) f3) i⌝ ∗ outL d i arg5 g)
         ∗ (∃ g, ⌜(arg5.slice (Rect.unit (s := S1024) (k0_off16 i) S16.size (k0_off16_inb i)) (fun _ => rfl)).view.read (Elt F) g
             = tileCount (arg4.view.read (Elt F) f4) (arg2.view.read (Elt F) f2) (arg3.view.read (Elt F) f3) i⌝ ∗ outC d i arg5 g)
         ∗ scr d i arg6 arg7 arg8 arg9 arg10 arg11 arg12 ∗ sems d i s0 s1 r0 r1
         ∗ ∃ W', ⌜∀ p ∈ W', p ∈ W ∨ p.2 = none⌝ ∗ owes (tile d i) O W') := by
  simp only [cc0__sc_body_eq_skeleton]; unfold cc0__sc_body_skel
  simp only [k0_part52_eq_skeleton]; unfold k0_part52_skel
  simp only [k0_part37_eq_skeleton, k0_part38_eq_skeleton, k0_part39_eq_skeleton, k0_part40_eq_skeleton, k0_part41_eq_skeleton, k0_part42_eq_skeleton, k0_part43_eq_skeleton,
    k0_part44_eq_skeleton, k0_part45_eq_skeleton, k0_part46_eq_skeleton, k0_part47_eq_skeleton, k0_part48_eq_skeleton, k0_part49_eq_skeleton, k0_part50_eq_skeleton, k0_part51_eq_skeleton]
  unfold k0_part37_skel k0_part38_skel k0_part39_skel k0_part40_skel k0_part41_skel k0_part42_skel k0_part43_skel k0_part44_skel k0_part45_skel
    k0_part46_skel k0_part47_skel k0_part48_skel k0_part49_skel k0_part50_skel k0_part51_skel
  unfold scr sems
  iintro ⟨Hmw, HO, ⟨Hs0, Hs1, Hr0, Hr1⟩, ⟨⟨%f6, H6⟩, ⟨%f7, H7⟩, ⟨%f8, H8⟩, ⟨%f9, H9⟩, ⟨%f10, H10⟩, ⟨%f11, H11⟩, ⟨%f12, H12⟩⟩, HoL, HoC, HA, HB, HC, HD⟩
  ihave Hp := (rows_split d i arg8 f8) $$ H8
  ihave Ht := (rows_split d i arg10 f10) $$ H10
  ihave Hp' := (rows_split d i arg9 f9) $$ H9
  ihave Ht' := (rows_split d i arg11 f11) $$ H11
  unfold srcs winM winC rowsPts rowPts outL outC
  icases Hp with ⟨H80, H81, H82⟩
  icases Ht with ⟨H100, H101, H102⟩
  icases Hp' with ⟨H90, H91, H92⟩
  icases Ht' with ⟨H110, H111, H112⟩
  icases HA with ⟨Ha0, Hp00, Ht00, Hp01, Ht01, Hp02, Ht02⟩
  icases HB with ⟨Ha1, Hp10, Ht10, Hp11, Ht11, Hp12, Ht12⟩
  icases HC with ⟨Ha2, Hp20, Ht20, Hp21, Ht21, Hp22, Ht22⟩
  icases HD with ⟨Ha3, Hp30, Ht30, Hp31, Ht31, Hp32, Ht32⟩
  sl_exec
  repeat rw [wp_bind]
  iapply (block_wp d i arg2 harg2 arg3 harg3 arg4 harg4 arg5 harg5 arg6 harg6 arg7 harg7 arg8 harg8 arg9 harg9 arg10 harg10 arg11 harg11 arg12 harg12 s0 s1 r0 r1 _ _ _ _ _ _ _ _ _ _
    (blkM (arg4.view.read (Elt F) f4) i 0) (blkC (arg2.view.read (Elt F) f2) i 0) (blkC (arg3.view.read (Elt F) f3) i 0)
    (View.read_writes_whole _ _ _) (View.read_writes_whole _ _ _) (View.read_writes_whole _ _ _) (View.read_writes_whole _ _ _)
    (View.read_writes_whole _ _ _) (View.read_writes_whole _ _ _) (View.read_writes_whole _ _ _) _ rfl)
  isplitl [H6]; · iexact H6
  isplitl [H80 H81 H82]
  · unfold rowsPts rowPts
    isplitl [H80]; · iexact H80
    isplitl [H81]; · iexact H81
    iexact H82
  isplitl [H100 H101 H102]
  · unfold rowsPts rowPts
    isplitl [H100]; · iexact H100
    isplitl [H101]; · iexact H101
    iexact H102
  iintro ⟨H6, ⟨%g80, Hp⟩, ⟨%g100, Ht⟩⟩
  unfold rowsPts rowPts
  icases Hp with ⟨H80, H81, H82⟩
  icases Ht with ⟨H100, H101, H102⟩
  generalize hz1 : trips (blkM (arg4.view.read (Elt F) f4) i 0) _ _ _ _ = z1
  obtain ⟨a1, b1, c1, e1⟩ := z1
  sl_exec
  repeat rw [wp_bind]
  iapply (block_wp d i arg2 harg2 arg3 harg3 arg4 harg4 arg5 harg5 arg7 harg7 arg6 harg6 arg9 harg9 arg8 harg8 arg11 harg11 arg10 harg10 arg12 harg12 s0 s1 r0 r1 _ _ _ _ _ _ _ _ _ _
    (blkM (arg4.view.read (Elt F) f4) i 1) (blkC (arg2.view.read (Elt F) f2) i 1) (blkC (arg3.view.read (Elt F) f3) i 1)
    (View.read_writes_whole _ _ _) (View.read_writes_whole _ _ _) (View.read_writes_whole _ _ _) (View.read_writes_whole _ _ _)
    (View.read_writes_whole _ _ _) (View.read_writes_whole _ _ _) (View.read_writes_whole _ _ _) _
    (for2_eq i arg2 harg2 arg3 harg3 arg4 harg4 arg5 harg5 arg6 harg6 arg7 harg7 arg8 harg8 arg9 harg9 arg10 harg10 arg11 harg11 arg12 harg12 s0 s1 r0 r1 _ k0_pay137 _ _ _ _ _))
  isplitl [H7]; · iexact H7
  isplitl [H90 H91 H92]
  · unfold rowsPts rowPts
    isplitl [H90]; · iexact H90
    isplitl [H91]; · iexact H91
    iexact H92
  isplitl [H110 H111 H112]
  · unfold rowsPts rowPts
    isplitl [H110]; · iexact H110
    isplitl [H111]; · iexact H111
    iexact H112
  iintro ⟨H7, ⟨%g91, Hp⟩, ⟨%g111, Ht⟩⟩
  unfold rowsPts rowPts
  icases Hp with ⟨H90, H91, H92⟩
  icases Ht with ⟨H110, H111, H112⟩
  generalize hz2 : trips (blkM (arg4.view.read (Elt F) f4) i 1) _ _ _ _ = z2
  obtain ⟨a2, b2, c2, e2⟩ := z2
  sl_exec
  repeat rw [wp_bind]
  iapply (block_wp d i arg2 harg2 arg3 harg3 arg4 harg4 arg5 harg5 arg6 harg6 arg7 harg7 arg8 harg8 arg9 harg9 arg10 harg10 arg11 harg11 arg12 harg12 s0 s1 r0 r1 _ _ _ _ _ _ _ _ _ _
    (blkM (arg4.view.read (Elt F) f4) i 2) (blkC (arg2.view.read (Elt F) f2) i 2) (blkC (arg3.view.read (Elt F) f3) i 2)
    (View.read_writes_whole _ _ _) (View.read_writes_whole _ _ _) (View.read_writes_whole _ _ _) (View.read_writes_whole _ _ _)
    (View.read_writes_whole _ _ _) (View.read_writes_whole _ _ _) (View.read_writes_whole _ _ _) _
    (for3_eq i arg2 harg2 arg3 harg3 arg4 harg4 arg5 harg5 arg6 harg6 arg7 harg7 arg8 harg8 arg9 harg9 arg10 harg10 arg11 harg11 arg12 harg12 s0 s1 r0 r1 0 k0_pay137 _ _ _ _ _))
  isplitl [H6]; · iexact H6
  isplitl [H80 H81 H82]
  · unfold rowsPts rowPts
    isplitl [H80]; · iexact H80
    isplitl [H81]; · iexact H81
    iexact H82
  isplitl [H100 H101 H102]
  · unfold rowsPts rowPts
    isplitl [H100]; · iexact H100
    isplitl [H101]; · iexact H101
    iexact H102
  iintro ⟨H6, ⟨%g82, Hp⟩, ⟨%g102, Ht⟩⟩
  unfold rowsPts rowPts
  icases Hp with ⟨H80, H81, H82⟩
  icases Ht with ⟨H100, H101, H102⟩
  generalize hz3 : trips (blkM (arg4.view.read (Elt F) f4) i 2) _ _ _ _ = z3
  obtain ⟨a3, b3, c3, e3⟩ := z3
  sl_exec
  repeat rw [wp_bind]
  iapply (block_wp d i arg2 harg2 arg3 harg3 arg4 harg4 arg5 harg5 arg7 harg7 arg6 harg6 arg9 harg9 arg8 harg8 arg11 harg11 arg10 harg10 arg12 harg12 s0 s1 r0 r1 _ _ _ _ _ _ _ _ _ _
    (blkM (arg4.view.read (Elt F) f4) i 3) (blkC (arg2.view.read (Elt F) f2) i 3) (blkC (arg3.view.read (Elt F) f3) i 3)
    (View.read_writes_whole _ _ _) (View.read_writes_whole _ _ _) (View.read_writes_whole _ _ _) (View.read_writes_whole _ _ _)
    (View.read_writes_whole _ _ _) (View.read_writes_whole _ _ _) (View.read_writes_whole _ _ _) _
    (for4_eq i arg2 harg2 arg3 harg3 arg4 harg4 arg5 harg5 arg6 harg6 arg7 harg7 arg8 harg8 arg9 harg9 arg10 harg10 arg11 harg11 arg12 harg12 s0 s1 r0 r1 0 k0_pay137 _))
  isplitl [H7]; · iexact H7
  isplitl [H90 H91 H92]
  · unfold rowsPts rowPts
    isplitl [H90]; · iexact H90
    isplitl [H91]; · iexact H91
    iexact H92
  isplitl [H110 H111 H112]
  · unfold rowsPts rowPts
    isplitl [H110]; · iexact H110
    isplitl [H111]; · iexact H111
    iexact H112
  iintro ⟨H7, ⟨%g93, Hp⟩, ⟨%g113, Ht⟩⟩
  unfold rowsPts rowPts
  icases Hp with ⟨H90, H91, H92⟩
  icases Ht with ⟨H110, H111, H112⟩
  generalize hz4 : trips (blkM (arg4.view.read (Elt F) f4) i 3) _ _ _ _ = z4
  obtain ⟨a4, b4, c4, e4⟩ := z4
  sl_exec
  have hc : tileCar (arg4.view.read (Elt F) f4) (arg2.view.read (Elt F) f2) (arg3.view.read (Elt F) f3) i = (a4, b4, c4, e4) := by
    have k1 : blkStep (arg4.view.read (Elt F) f4) (arg2.view.read (Elt F) f2) (arg3.view.read (Elt F) f3) i 0 car0 = (a1, b1, c1, e1) := hz1
    have k2 : blkStep (arg4.view.read (Elt F) f4) (arg2.view.read (Elt F) f2) (arg3.view.read (Elt F) f3) i 1 (a1, b1, c1, e1) = (a2, b2, c2, e2) := hz2
    have k3 : blkStep (arg4.view.read (Elt F) f4) (arg2.view.read (Elt F) f2) (arg3.view.read (Elt F) f3) i 2 (a2, b2, c2, e2) = (a3, b3, c3, e3) := hz3
    have k4 : blkStep (arg4.view.read (Elt F) f4) (arg2.view.read (Elt F) f2) (arg3.view.read (Elt F) f3) i 3 (a3, b3, c3, e3) = (a4, b4, c4, e4) := hz4
    unfold tileCar
    rw [k1, k2, k3, k4]
  iapply (wp_done d i)
  isplitl [HoL]
  · iexists _; isplitr
    swap
    · iexact HoL
    · ipureintro
      exact (View.read_writes_whole _ _ _).trans ((lanes_lo d i arg12 f12 _ _).trans (by unfold tileLoss; rw [hc]))
  isplitl [HoC]
  · iexists _; isplitr
    swap
    · iexact HoC
    · ipureintro
      exact (View.read_writes_whole _ _ _).trans ((lanes_hi d i arg12 f12 _ _).trans (by unfold tileCount; rw [hc]))
  isplitl [H6 H7 H80 H81 H82 H90 H91 H92 H100 H101 H102 H110 H111 H112 H12]
  · isplitl [H6]; · iexists _; iexact H6
    isplitl [H7]; · iexists _; iexact H7
    isplitl [H80 H81 H82]
    · iapply (rows_whole d i arg8); unfold rowsPts rowPts
      isplitl [H80]; · iexact H80
      isplitl [H81]; · iexact H81
      iexact H82
    isplitl [H90 H91 H92]
    · iapply (rows_whole d i arg9); unfold rowsPts rowPts
      isplitl [H90]; · iexact H90
      isplitl [H91]; · iexact H91
      iexact H92
    isplitl [H100 H101 H102]
    · iapply (rows_whole d i arg10); unfold rowsPts rowPts
      isplitl [H100]; · iexact H100
      isplitl [H101]; · iexact H101
      iexact H102
    isplitl [H110 H111 H112]
    · iapply (rows_whole d i arg11); unfold rowsPts rowPts
      isplitl [H110]; · iexact H110
      isplitl [H111]; · iexact H111
      iexact H112
    iexists _; iexact H12
  isplitl [Hs0 Hs1 Hr0 Hr1]
  · isplitl [Hs0]; · iexact Hs0
    isplitl [Hs1]; · iexact Hs1
    isplitl [Hr0]; · iexact Hr0
    iexact Hr1
  iexists _; isplitr
  swap
  · iexact HO
  · ipureintro
    intro p hp
    simp only [Finset.mem_insert] at hp
    rcases hp with h | h | h | h | h | h | h | h | h | h | h | h | h | h | h | h | h | h | h | h | h | h | h | h | h | h | h | h | h | h | h
    all_goals first
      | exact .inl h
      | exact .inr (h ▸ rfl)

end Body

end Cert.Proof
-- ==== Proof.Launch.lean ====
/-
  The launch of the tiles: what the call hands each of them and what each hands back, and each tile's run seen as the
  call's task.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

variable {F : FTy → Type}

local notation "𝕄" => MM F

/-! ## The arrays of the call -/

abbrev pLoc (d : Dev nD) : Loc nD τ sig := (SparseCore.T d).loc main_v3
abbrev tLoc (d : Dev nD) : Loc nD τ sig := (SparseCore.T d).loc main_v4
abbrev mLoc (d : Dev nD) : Loc nD τ sig := (SparseCore.T d).loc main_v2
abbrev oLoc (d : Dev nD) : Loc nD τ sig := (SparseCore.T d).loc main_v5

/-- The places of a tile's loss among the partial sums, -/
abbrev lossR (i : grid0.Coords) : Rect S1024 := Rect.unit (s := S1024) (k0_off15 i) S16.size (k0_off15_inb i)
/-- and those of its count. -/
abbrev countR (i : grid0.Coords) : Rect S1024 := Rect.unit (s := S1024) (k0_off16 i) S16.size (k0_off16_inb i)

theorem winM_of (d : Dev nD) (i : grid0.Coords) (q : PosShare TreeShare) (f : Buf (Elt F) (mLoc d)) (b : BitVec 32)
    (h : ∀ a, (k0_off1 i b) a + S16x512.size a ≤ S2048x512.size a) :
    (mLoc d ↦{q} f : sProp 𝕄) ⊢ winM d i (Memref.whole main_v2_scv) q f b h :=
  (pointsTo_split_subset (Finset.subset_univ _)).1.trans sep_elim_left

theorem winP_of (d : Dev nD) (i : grid0.Coords) (q : PosShare TreeShare) (f : Buf (Elt F) (pLoc d)) (b c : BitVec 32)
    (h : ∀ a, (k0_off2 i b c) a + S16x512.size a ≤ S24576x512.size a) :
    (pLoc d ↦{q} f : sProp 𝕄) ⊢ winC d i (Memref.whole main_v3_scv) q f b c h :=
  (pointsTo_split_subset (Finset.subset_univ _)).1.trans sep_elim_left

theorem winT_of (d : Dev nD) (i : grid0.Coords) (q : PosShare TreeShare) (f : Buf (Elt F) (tLoc d)) (b c : BitVec 32)
    (h : ∀ a, (k0_off2 i b c) a + S16x512.size a ≤ S24576x512.size a) :
    (tLoc d ↦{q} f : sProp 𝕄) ⊢ winC d i (Memref.whole main_v4_scv) q f b c h :=
  (pointsTo_split_subset (Finset.subset_univ _)).1.trans sep_elim_left

theorem toks4 {ℓ : Loc nD τ sig} (q : PosShare TreeShare) (f : Buf (Elt F) ℓ) :
    (ℓ ↦{q} f : sProp 𝕄) ⊢ iprop((ℓ ↦{shareTok q 4 0} f) ∗ (ℓ ↦{shareTok q 4 1} f) ∗ (ℓ ↦{shareTok q 4 2} f) ∗ (ℓ ↦{shareTok q 4 3} f)) := by
  refine (pointsTo_toks_split q 4).trans (sep_elim_right.trans ?_)
  rw [show (Finset.univ : Finset (Fin 4)) = {0, 1, 2, 3} by decide]
  iterate 3 rw [SparseCore.bigSep_insert' (by decide)]
  rw [bigSep_singleton]

theorem toks12 {ℓ : Loc nD τ sig} (q : PosShare TreeShare) (f : Buf (Elt F) ℓ) :
    (ℓ ↦{q} f : sProp 𝕄) ⊢ iprop((ℓ ↦{shareTok q 12 0} f) ∗ (ℓ ↦{shareTok q 12 1} f) ∗ (ℓ ↦{shareTok q 12 2} f) ∗ (ℓ ↦{shareTok q 12 3} f)
      ∗ (ℓ ↦{shareTok q 12 4} f) ∗ (ℓ ↦{shareTok q 12 5} f) ∗ (ℓ ↦{shareTok q 12 6} f) ∗ (ℓ ↦{shareTok q 12 7} f)
      ∗ (ℓ ↦{shareTok q 12 8} f) ∗ (ℓ ↦{shareTok q 12 9} f) ∗ (ℓ ↦{shareTok q 12 10} f) ∗ (ℓ ↦{shareTok q 12 11} f)) := by
  refine (pointsTo_toks_split q 12).trans (sep_elim_right.trans ?_)
  rw [show (Finset.univ : Finset (Fin 12)) = {0, 1, 2, 3, 4, 5, 6, 7, 8, 9, 10, 11} by decide]
  iterate 11 rw [SparseCore.bigSep_insert' (by decide)]
  rw [bigSep_singleton]

/-- Seven holdings of the arrays are the seven windows of one block. -/
theorem srcs_of (d : Dev nD) (i : grid0.Coords) (qm qp0 qp1 qp2 qt0 qt1 qt2 : PosShare TreeShare) (fp : Buf (Elt F) (pLoc d)) (ft : Buf (Elt F) (tLoc d))
    (fm : Buf (Elt F) (mLoc d)) (b : BitVec 32) (hm : ∀ a, (k0_off1 i b) a + S16x512.size a ≤ S2048x512.size a)
    (h0 : ∀ a, (k0_off2 i b 0#32) a + S16x512.size a ≤ S24576x512.size a)
    (h1 : ∀ a, (k0_off2 i b 1#32) a + S16x512.size a ≤ S24576x512.size a)
    (h2 : ∀ a, (k0_off2 i b 2#32) a + S16x512.size a ≤ S24576x512.size a) :
    iprop((mLoc d ↦{qm} fm) ∗ ((pLoc d ↦{qp0} fp) ∗ (pLoc d ↦{qp1} fp) ∗ (pLoc d ↦{qp2} fp)) ∗ ((tLoc d ↦{qt0} ft) ∗ (tLoc d ↦{qt1} ft) ∗ (tLoc d ↦{qt2} ft)))
      ⊢ (srcs d i (Memref.whole main_v3_scv) (Memref.whole main_v4_scv) (Memref.whole main_v2_scv) qm qp0 qp1 qp2 qt0 qt1 qt2 fp ft fm b hm h0 h1 h2 : sProp 𝕄) := by
  iintro ⟨Hm, ⟨Hp0, Hp1, Hp2⟩, Ht0, Ht1, Ht2⟩
  unfold srcs
  isplitl [Hm]; · iapply (winM_of d i qm fm b hm); iexact Hm
  isplitl [Hp0]; · iapply (winP_of d i qp0 fp b _ h0); iexact Hp0
  isplitl [Ht0]; · iapply (winT_of d i qt0 ft b _ h0); iexact Ht0
  isplitl [Hp1]; · iapply (winP_of d i qp1 fp b _ h1); iexact Hp1
  isplitl [Ht1]; · iapply (winT_of d i qt1 ft b _ h1); iexact Ht1
  isplitl [Hp2]; · iapply (winP_of d i qp2 fp b _ h2); iexact Hp2
  iapply (winT_of d i qt2 ft b _ h2); iexact Ht2

/-! ## What the call carries -/

theorem nCore_zero : (K (F := F)).nCore 0 = 2 := rfl
theorem nSub_zero : (K (F := F)).nSub 0 = 16 := rfl

/-- The tile of core `c`, subcore `s`. -/
def at0 (c : Fin 2) (s : Fin 16) : grid0.Coords :=
  fun | 0 => c | 1 => s | ⟨_ + 2, h⟩ => absurd h (Nat.not_lt.2 (Nat.le_add_left _ _))

/-- The share of the sources that a tile reads through. -/
def tileShare (c : Fin 2) (s : Fin 16) : PosShare TreeShare := shareTok (shareTok fullShare 2 c) 16 s

/-- What a tile is handed: the sources for reading, its places of the partial sums for writing. -/
def goP (fp : (d : Dev nD) → Buf (Elt F) (pLoc d)) (ft : (d : Dev nD) → Buf (Elt F) (tLoc d)) (fm : (d : Dev nD) → Buf (Elt F) (mLoc d))
    (d : Dev nD) (c : Fin 2) (s : Fin 16) : sProp 𝕄 :=
  iprop((pLoc d ↦{tileShare c s} fp d) ∗ (tLoc d ↦{tileShare c s} ft d) ∗ (mLoc d ↦{tileShare c s} fm d)
    ∗ (∃ f, oLoc d ↦[(lossR (at0 c s)).set]{fullShare} f) ∗ (∃ f, oLoc d ↦[(countR (at0 c s)).set]{fullShare} f))

variable [FloatOps F]

/-- What a tile hands back: its loss and its count at their places. -/
def doneP (fp : (d : Dev nD) → Buf (Elt F) (pLoc d)) (ft : (d : Dev nD) → Buf (Elt F) (tLoc d)) (fm : (d : Dev nD) → Buf (Elt F) (mLoc d))
    (d : Dev nD) (c : Fin 2) (s : Fin 16) : sProp 𝕄 :=
  iprop((∃ g : Buf (Elt F) (oLoc d), ⌜∀ k : S16.Idx, g ((lossR (at0 c s)).emb k) = tileLoss (fm d) (fp d) (ft d) (at0 c s) k⌝ ∗ oLoc d ↦[(lossR (at0 c s)).set]{fullShare} g)
    ∗ (∃ g : Buf (Elt F) (oLoc d), ⌜∀ k : S16.Idx, g ((countR (at0 c s)).emb k) = tileCount (fm d) (fp d) (ft d) (at0 c s) k⌝ ∗ oLoc d ↦[(countR (at0 c s)).set]{fullShare} g))

section Pay

variable (fp : (d : Dev nD) → Buf (Elt F) (pLoc d)) (ft : (d : Dev nD) → Buf (Elt F) (tLoc d)) (fm : (d : Dev nD) → Buf (Elt F) (mLoc d))

instance goP_storable (d : Dev nD) (c : Fin 2) (s : Fin 16) : BI.Storable (upEmb : UEmb _ 𝕄) (goP fp ft fm d c s) := by
  unfold goP; infer_instance
instance doneP_storable (d : Dev nD) (c : Fin 2) (s : Fin 16) : BI.Storable (upEmb : UEmb _ 𝕄) (doneP fp ft fm d c s) := by
  unfold doneP; infer_instance

/-- The one call: each core takes what its tiles are handed and gives back what they hand back. -/
def P : (K (F := F)).Pay (nD := nD) (Val := Elt F) (Name := ℕ) (U := UU) where
  st := fun q d c => match q with | 0 => bigSep Finset.univ fun s : Fin 16 => goP fp ft fm d (Fin.cast nCore_zero c) s
  dn := fun q d c => match q with | 0 => bigSep Finset.univ fun s : Fin 16 => doneP fp ft fm d (Fin.cast nCore_zero c) s
  go := fun q d c i => match q with | 0 => goP fp ft fm d (Fin.cast nCore_zero c) (Fin.cast nSub_zero i)
  td := fun q d c i => match q with | 0 => doneP fp ft fm d (Fin.cast nCore_zero c) (Fin.cast nSub_zero i)
  x := fun _ _ => iprop(emp)

instance P_storable : (P fp ft fm).IsStorable where
  st q d c := match q with
    | 0 => (inferInstance : BI.Storable (upEmb : UEmb _ 𝕄) (bigSep Finset.univ fun s : Fin 16 => goP fp ft fm d (Fin.cast nCore_zero c) s))
  dn q d c := match q with
    | 0 => (inferInstance : BI.Storable (upEmb : UEmb _ 𝕄) (bigSep Finset.univ fun s : Fin 16 => doneP fp ft fm d (Fin.cast nCore_zero c) s))
  go q d c i := match q with | 0 => goP_storable fp ft fm d (Fin.cast nCore_zero c) (Fin.cast nSub_zero i)
  td q d c i := match q with | 0 => doneP_storable fp ft fm d (Fin.cast nCore_zero c) (Fin.cast nSub_zero i)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's part is its tiles' parts. -/
theorem vecSplit : (K (F := F)).VecSplit' (P fp ft fm) 0 := by
  intro d c
  show bigSep Finset.univ (fun s : Fin 16 => goP fp ft fm d (Fin.cast nCore_zero c) s) ⊢ |={Set.univ}=> iprop(
      (bigSep Finset.univ fun i : Fin ((K (F := F)).nSub 0) => goP fp ft fm d (Fin.cast nCore_zero c) (Fin.cast nSub_zero i))
      ∗ ((bigSep Finset.univ fun i : Fin ((K (F := F)).nSub 0) => doneP fp ft fm d (Fin.cast nCore_zero c) (Fin.cast nSub_zero i))
          -∗ bigSep Finset.univ fun s : Fin 16 => doneP fp ft fm d (Fin.cast nCore_zero c) s))
  rw [bigSep_tasks (F := F) (fun s => goP fp ft fm d (Fin.cast nCore_zero c) s), bigSep_tasks (F := F) (fun s => doneP fp ft fm d (Fin.cast nCore_zero c) s)]
  iintro H; imodintro
  isplitl [H]; · iexact H
  iintro H; iexact H

/-! ## A tile's own storage -/

section Own

variable (d : Dev nD) (i : grid0.Coords)

abbrev cV : Fin τ.nSC := (i 0).castLE hcore0
abbrev jV : Fin τ.nSub := (i 1).castLE hsub0
abbrev cell (s : DmaSems sig S_) : GSem nD τ sig := (tile d i, .dma s.sem)

/-- The four semaphores are among the tile's own. -/
theorem ownSems0_tile :
    (ownSems0 (tile d i) : sProp 𝕄)
      = iprop(semVal (cell d i cc0_scratch7) 0 ∗ semVal (cell d i cc0_scratch8) 0 ∗ semVal (cell d i cc0_scoped0) 0 ∗ semVal (cell d i cc0_scoped1) 0
          ∗ bigSep (((((ownCells (tile d i)).erase (cell d i cc0_scratch7)).erase (cell d i cc0_scratch8)).erase (cell d i cc0_scoped0)).erase (cell d i cc0_scoped1))
              fun g => semVal g 0) := by
  have m (s : DmaSems sig S_) (h : (SemLoc.dma s.sem : SemLoc sig).isScoped .scVector = true) : cell d i s ∈ ownCells (tile d i) :=
    (mem_ownCells (g := cell d i s)).mpr ⟨rfl, h⟩
  have ne (s s' : DmaSems sig S_) (h : (SemLoc.dma s.sem : SemLoc sig) ≠ .dma s'.sem) : cell d i s ≠ cell d i s' := fun e => h (Prod.mk.inj e).2
  unfold SparseCore.Cfg.ownSems0
  rw [SparseCore.bigSep_erase' (m cc0_scratch7 (by decide)),
    SparseCore.bigSep_erase' (Finset.mem_erase.mpr ⟨ne cc0_scratch8 cc0_scratch7 (by decide), m cc0_scratch8 (by decide)⟩),
    SparseCore.bigSep_erase' (Finset.mem_erase.mpr ⟨ne cc0_scoped0 cc0_scratch8 (by decide), Finset.mem_erase.mpr ⟨ne cc0_scoped0 cc0_scratch7 (by decide), m cc0_scoped0 (by decide)⟩⟩),
    SparseCore.bigSep_erase' (Finset.mem_erase.mpr ⟨ne cc0_scoped1 cc0_scoped0 (by decide), Finset.mem_erase.mpr ⟨ne cc0_scoped1 cc0_scratch8 (by decide),
      Finset.mem_erase.mpr ⟨ne cc0_scoped1 cc0_scratch7 (by decide), m cc0_scoped1 (by decide)⟩⟩⟩)]

abbrev own (b : Ref sig .scVector) : DevRef τ sig := (Proc.scVector (cV i) (jV i)).devRef b

/-- What is left of the tile's own buffers beside the seven. -/
def restRefs : Finset (DevRef τ sig) :=
  (((((((ownRefs (τ := τ) (.scVector (cV i) (jV i))).erase (own i cc0_scratch0)).erase (own i cc0_scratch1)).erase (own i cc0_scratch2)).erase (own i cc0_scratch3)).erase
    (own i cc0_scratch4)).erase (own i cc0_scratch5)).erase (own i cc0_scratch6)

/-- The seven scratch buffers are among the tile's own. -/
theorem ownBufs_tile :
    (ownBufs (tile d i) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f) ∗ (∃ f, (tile d i).loc cc0_scratch3 ↦{fullShare} f)
          ∗ (∃ f, (tile d i).loc cc0_scratch4 ↦{fullShare} f) ∗ (∃ f, (tile d i).loc cc0_scratch5 ↦{fullShare} f)
          ∗ (∃ f, (tile d i).loc cc0_scratch6 ↦{fullShare} f)
          ∗ bigSep (restRefs i) fun b => iprop(∃ f, ((d, b) : Loc nD τ sig) ↦{fullShare} f)) := by
  have ne (b b' : Ref sig .scVector) (h : b ≠ b') : own i b ≠ own i b' := fun e => h (Proc.devRef_injective _ e)
  have m0 : own i cc0_scratch0 ∈ ownRefs (τ := τ) (.scVector (cV i) (jV i)) := SparseCore.Cfg.mem_ownRefs_of_owner (p := Proc.scVector (cV i) (jV i)) rfl
  have m1 : own i cc0_scratch1 ∈ ownRefs (τ := τ) (.scVector (cV i) (jV i)) := SparseCore.Cfg.mem_ownRefs_of_owner (p := Proc.scVector (cV i) (jV i)) rfl
  have m2 : own i cc0_scratch2 ∈ ownRefs (τ := τ) (.scVector (cV i) (jV i)) := SparseCore.Cfg.mem_ownRefs_of_owner (p := Proc.scVector (cV i) (jV i)) rfl
  have m3 : own i cc0_scratch3 ∈ ownRefs (τ := τ) (.scVector (cV i) (jV i)) := SparseCore.Cfg.mem_ownRefs_of_owner (p := Proc.scVector (cV i) (jV i)) rfl
  have m4 : own i cc0_scratch4 ∈ ownRefs (τ := τ) (.scVector (cV i) (jV i)) := SparseCore.Cfg.mem_ownRefs_of_owner (p := Proc.scVector (cV i) (jV i)) rfl
  have m5 : own i cc0_scratch5 ∈ ownRefs (τ := τ) (.scVector (cV i) (jV i)) := SparseCore.Cfg.mem_ownRefs_of_owner (p := Proc.scVector (cV i) (jV i)) rfl
  have m6 : own i cc0_scratch6 ∈ ownRefs (τ := τ) (.scVector (cV i) (jV i)) := SparseCore.Cfg.mem_ownRefs_of_owner (p := Proc.scVector (cV i) (jV i)) rfl
  have er {s : Finset (DevRef τ sig)} {b b' : Ref sig .scVector} (h : own i b ∈ s) (hne : b ≠ b') : own i b ∈ s.erase (own i b') :=
    Finset.mem_erase.mpr ⟨ne b b' hne, h⟩
  unfold SparseCore.Cfg.ownBufs restRefs
  refine (SparseCore.bigSep_erase' m0).trans ?_
  rw [SparseCore.bigSep_erase' (er (b' := cc0_scratch0) m1 (by decide)),
    SparseCore.bigSep_erase' (er (b' := cc0_scratch1) (er (b' := cc0_scratch0) m2 (by decide)) (by decide)),
    SparseCore.bigSep_erase' (er (b' := cc0_scratch2) (er (b' := cc0_scratch1) (er (b' := cc0_scratch0) m3 (by decide)) (by decide)) (by decide)),
    SparseCore.bigSep_erase' (er (b' := cc0_scratch3) (er (b' := cc0_scratch2) (er (b' := cc0_scratch1) (er (b' := cc0_scratch0) m4 (by decide)) (by decide)) (by decide)) (by decide)),
    SparseCore.bigSep_erase' (er (b' := cc0_scratch4) (er (b' := cc0_scratch3) (er (b' := cc0_scratch2) (er (b' := cc0_scratch1) (er (b' := cc0_scratch0) m5 (by decide)) (by decide)) (by decide)) (by decide)) (by decide)),
    SparseCore.bigSep_erase' (er (b' := cc0_scratch5) (er (b' := cc0_scratch4) (er (b' := cc0_scratch3) (er (b' := cc0_scratch2) (er (b' := cc0_scratch1) (er (b' := cc0_scratch0) m6 (by decide)) (by decide)) (by decide)) (by decide)) (by decide)) (by decide))]

/-- The scratch as the tile's run names it. -/
theorem scr_eq :
    (scr d i (Memref.whole cc0_scratch0) (Memref.whole cc0_scratch1) (Memref.whole cc0_scratch2) (Memref.whole cc0_scratch3) (Memref.whole cc0_scratch4)
        (Memref.whole cc0_scratch5) (Memref.whole cc0_scratch6) : sProp 𝕄)
      = iprop((∃ f, (tile d i).loc cc0_scratch0 ↦{fullShare} f) ∗ (∃ f, (tile d i).loc cc0_scratch1 ↦{fullShare} f)
          ∗ (∃ f, (tile d i).loc cc0_scratch2 ↦{fullShare} f) ∗ (∃ f, (tile d i).loc cc0_scratch3 ↦{fullShare} f)
          ∗ (∃ f, (tile d i).loc cc0_scratch4 ↦{fullShare} f) ∗ (∃ f, (tile d i).loc cc0_scratch5 ↦{fullShare} f)
          ∗ (∃ f, (tile d i).loc cc0_scratch6 ↦{fullShare} f)) := by
  unfold scr
  simp only [Memref.view_whole, View.set_whole]

end Own

/-! ## A tile's task -/

theorem outL_eq (d : Dev nD) (i : grid0.Coords) (f : Buf (Elt F) (oLoc d)) :
    (outL d i (Memref.whole main_v5_scv) f : sProp 𝕄) = (oLoc d ↦[(lossR i).set]{fullShare} f) := by
  have h : ((Memref.whole main_v5_scv).slice (lossR i) (fun _ => rfl)).view.set = (lossR i).set := by
    show ((View.whole (main_v5_scv : Ref sig .scVector)).slice (lossR i)).set = _
    rw [View.set_slice]; exact Finset.map_refl
  unfold outL
  rw [h]
theorem outC_eq (d : Dev nD) (i : grid0.Coords) (f : Buf (Elt F) (oLoc d)) :
    (outC d i (Memref.whole main_v5_scv) f : sProp 𝕄) = (oLoc d ↦[(countR i).set]{fullShare} f) := by
  have h : ((Memref.whole main_v5_scv).slice (countR i) (fun _ => rfl)).view.set = (countR i).set := by
    show ((View.whole (main_v5_scv : Ref sig .scVector)).slice (countR i)).set = _
    rw [View.set_slice]; exact Finset.map_refl
  unfold outC
  rw [h]

set_option maxHeartbeats 1000000 in
/-- The tile of core `c`, subcore `s` does its part. -/
theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ goP fp ft fm d c s
        ∗ scopedBufs (tile d (at0 c s)) ∗ scopedSems0 (tile d (at0 c s)) ∗ owes (tile d (at0 c s)) O W)
      ⊢ wp frame (wpE (defs₀ (F := F)) 𝒱₀ (tile d (at0 c s)) none) Set.univ
          (cc0__sc_body (at0 c s) (Memref.whole main_v3_scv) (Memref.isWhole_whole _) (Memref.whole main_v4_scv) (Memref.isWhole_whole _)
            (Memref.whole main_v2_scv) (Memref.isWhole_whole _) (Memref.whole main_v5_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scoped0 cc0_scoped1)
          fun _ => iprop(doneP fp ft fm d c s ∗ scopedBufs (tile d (at0 c s)) ∗ scopedSems0 (tile d (at0 c s))
            ∗ ∃ W', ⌜∀ p ∈ W', p ∈ W ∨ p.2 = none ∨ p.2 = some 0⌝ ∗ owes (tile d (at0 c s)) O W') := by
  unfold tile
  rw [(K (F := F)).scopedBufs_V facts d _ _, SparseCore.Cfg.scopedSems0_V (Val := Elt F) d _ _]
  rw [show (ownSems0 (V d (cV (at0 c s)) (jV (at0 c s))) : sProp 𝕄) = _ from ownSems0_tile d (at0 c s),
    show (ownBufs (V d (cV (at0 c s)) (jV (at0 c s))) : sProp 𝕄) = _ from ownBufs_tile d (at0 c s)]
  unfold goP
  iintro ⟨#Hlv, -, ⟨Hp, Ht, Hm, ⟨%fL, HL⟩, ⟨%fC, HC⟩⟩, ⟨B0, B1, B2, B3, B4, B5, B6, Bs⟩, ⟨S0, S1, S2, S3, Ss⟩, HO⟩
  ihave Hmw := ((K (F := F)).mayWaits_none (thr := tile d (at0 c s)) hO) $$ Hlv
  ihave Hp := (toks12 _ _) $$ Hp
  icases Hp with ⟨P0, P1, P2, P3, P4, P5, P6, P7, P8, P9, P10, P11⟩
  ihave Ht := (toks12 _ _) $$ Ht
  icases Ht with ⟨T0, T1, T2, T3, T4, T5, T6, T7, T8, T9, T10, T11⟩
  ihave Hm := (toks4 _ _) $$ Hm
  icases Hm with ⟨M0, M1, M2, M3⟩
  iapply wp_wand $$ [Hmw HL HC B0 B1 B2 B3 B4 B5 B6 S0 S1 S2 S3 HO P0 P1 P2 P3 P4 P5 P6 P7 P8 P9 P10 P11 T0 T1 T2 T3 T4 T5 T6 T7 T8 T9 T10 T11 M0 M1 M2 M3]
  · iapply (tile_wp d (at0 c s) (Memref.whole main_v3_scv) (Memref.isWhole_whole _) (Memref.whole main_v4_scv) (Memref.isWhole_whole _)
      (Memref.whole main_v2_scv) (Memref.isWhole_whole _) (Memref.whole main_v5_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8 cc0_scoped0 cc0_scoped1 O W
      (shareTok (tileShare c s) 12) (shareTok (tileShare c s) 12) (shareTok (tileShare c s) 4) (fp d) (ft d) (fm d) fL fC trivial trivial)
    isplitl [Hmw]; · iexact Hmw
    isplitl [HO]; · iexact HO
    isplitl [S0 S1 S2 S3]
    · unfold sems
      isplitl [S0]; · iexact S0
      isplitl [S1]; · iexact S1
      isplitl [S2]; · iexact S2
      iexact S3
    isplitl [B0 B1 B2 B3 B4 B5 B6]
    · rw [scr_eq]
      isplitl [B0]; · iexact B0
      isplitl [B1]; · iexact B1
      isplitl [B2]; · iexact B2
      isplitl [B3]; · iexact B3
      isplitl [B4]; · iexact B4
      isplitl [B5]; · iexact B5
      iexact B6
    isplitl [HL]; · rw [outL_eq]; iexact HL
    isplitl [HC]; · rw [outC_eq]; iexact HC
    isplitl [P0 P1 P2 T0 T1 T2 M0]
    · iapply srcs_of
      isplitl [M0]; · iexact M0
      isplitl [P0 P1 P2]
      · isplitl [P0]; · iexact P0
        isplitl [P1] <;> iassumption
      isplitl [T0]; · iexact T0
      isplitl [T1] <;> iassumption
    isplitl [P3 P4 P5 T3 T4 T5 M1]
    · iapply srcs_of
      isplitl [M1]; · iexact M1
      isplitl [P3 P4 P5]
      · isplitl [P3]; · iexact P3
        isplitl [P4] <;> iassumption
      isplitl [T3]; · iexact T3
      isplitl [T4] <;> iassumption
    isplitl [P6 P7 P8 T6 T7 T8 M2]
    · iapply srcs_of
      isplitl [M2]; · iexact M2
      isplitl [P6 P7 P8]
      · isplitl [P6]; · iexact P6
        isplitl [P7] <;> iassumption
      isplitl [T6]; · iexact T6
      isplitl [T7] <;> iassumption
    iapply srcs_of
    isplitl [M3]; · iexact M3
    isplitl [P9 P10 P11]
    · isplitl [P9]; · iexact P9
      isplitl [P10] <;> iassumption
    isplitl [T9]; · iexact T9
    isplitl [T10] <;> iassumption
  iintro %_ ⟨HL, HC, HB, HS, %W', %hW', HO⟩
  ihave HB := (Entails.of_eq (scr_eq d (at0 c s))) $$ HB
  unfold sems
  icases HB with ⟨B0, B1, B2, B3, B4, B5, B6⟩
  icases HS with ⟨S0, S1, S2, S3⟩
  icases HL with ⟨%gL, %hL, HL⟩
  icases HC with ⟨%gC, %hC, HC⟩
  ihave HL := (Entails.of_eq (outL_eq d (at0 c s) gL)) $$ HL
  ihave HC := (Entails.of_eq (outC_eq d (at0 c s) gC)) $$ HC
  isplitl [HL HC]
  · unfold doneP
    isplitl [HL]
    · iexists gL; isplitr
      · ipureintro; exact fun k => congrFun hL k
      · iexact HL
    · iexists gC; isplitr
      · ipureintro; exact fun k => congrFun hC k
      · iexact HC
  isplitl [B0 B1 B2 B3 B4 B5 B6 Bs]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact Bs
  isplitl [S0 S1 S2 S3 Ss]
  · isplitl [S0]; · iexact S0
    isplitl [S1]; · iexact S1
    isplitl [S2]; · iexact S2
    isplitl [S3]; · iexact S3
    iexact Ss
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_body (at0 c s) (Memref.whole main_v3_scv) (Memref.isWhole_whole _) (Memref.whole main_v4_scv) (Memref.isWhole_whole _)
            (Memref.whole main_v2_scv) (Memref.isWhole_whole _) (Memref.whole main_v5_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scoped0 cc0_scoped1) ⟨⟩ c s := rfl

/-- Every task of the call is a tile's. -/
theorem tileObl : (K (F := F)).TileObl (D (F := F)) 𝒱 (P fp ft fm) v₀ 0 := by
  intro d c i O W hO _ _
  simp only [show (P fp ft fm).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body fp ft fm d ⟨_, hc.1⟩ ⟨_, hc.2⟩ O W hO

end Pay

end Cert.Proof
-- ==== Proof.Tiles.lean ====
/-
  The arrays of the launch dealt out to the tiles, and the partial sums put together from what the tiles hand back.
-/
module

public import proofs.«01_k».proof.Proof.Launch

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

variable {F : FTy → Type}

local notation "𝕄" => MM F

/-! ## The places of the partial sums -/

theorem lossR_off : ∀ (c : Fin 2) (s : Fin 16), k0_off15 (at0 c s) 0 = 16 * (2 * s.val + c.val) := by decide +kernel
theorem countR_off : ∀ (c : Fin 2) (s : Fin 16), k0_off16 (at0 c s) 0 = 512 + 16 * (2 * s.val + c.val) := by decide +kernel

theorem mem_lossR (c : Fin 2) (s : Fin 16) (x : S1024.Idx) :
    x ∈ (lossR (at0 c s)).set ↔ 16 * (2 * s.val + c.val) ≤ (x 0 : ℕ) ∧ (x 0 : ℕ) < 16 * (2 * s.val + c.val) + 16 := by
  rw [Rect.mem_set_unit, ← lossR_off]
  exact ⟨fun h => h 0, fun h a => by fin_cases a; exact h⟩
theorem mem_countR (c : Fin 2) (s : Fin 16) (x : S1024.Idx) :
    x ∈ (countR (at0 c s)).set ↔ 512 + 16 * (2 * s.val + c.val) ≤ (x 0 : ℕ) ∧ (x 0 : ℕ) < 512 + 16 * (2 * s.val + c.val) + 16 := by
  rw [Rect.mem_set_unit, ← countR_off]
  exact ⟨fun h => h 0, fun h a => by fin_cases a; exact h⟩

/-- A tile's places, -/
def tileSet (c : Fin 2) (s : Fin 16) : Finset S1024.Idx := (lossR (at0 c s)).set ∪ (countR (at0 c s)).set
/-- and a core's. -/
def coreSet (c : Fin 2) : Finset S1024.Idx := Finset.univ.biUnion (tileSet c)

theorem mem_tileSet (c : Fin 2) (s : Fin 16) (x : S1024.Idx) :
    x ∈ tileSet c s ↔ 16 * (2 * s.val + c.val) ≤ (x 0 : ℕ) % 512 ∧ (x 0 : ℕ) % 512 < 16 * (2 * s.val + c.val) + 16 := by
  unfold tileSet
  rw [Finset.mem_union, mem_lossR, mem_countR]
  have := (x 0).isLt
  have h : (x 0 : ℕ) < 1024 := this
  have := c.isLt
  have := s.isLt
  omega

theorem mem_coreSet (c : Fin 2) (x : S1024.Idx) : x ∈ coreSet c ↔ ((x 0 : ℕ) / 16) % 2 = c.val := by
  unfold coreSet
  simp only [Finset.mem_biUnion, Finset.mem_univ, true_and, mem_tileSet]
  have h : (x 0 : ℕ) < 1024 := (x 0).isLt
  have := c.isLt
  constructor
  · rintro ⟨s, hs⟩; omega
  · intro hx; exact ⟨⟨((x 0 : ℕ) % 512) / 32, by omega⟩, by dsimp only; omega⟩

theorem loss_count_disjoint (c : Fin 2) (s : Fin 16) : Disjoint (lossR (at0 c s)).set (countR (at0 c s)).set :=
  Finset.disjoint_left.mpr fun x h h' => by
    rw [mem_lossR] at h; rw [mem_countR] at h'
    have := c.isLt
    have := s.isLt
    omega
theorem tiles_disjoint (c : Fin 2) : ∀ s ∈ (Finset.univ : Finset (Fin 16)), ∀ s' ∈ (Finset.univ : Finset (Fin 16)), s ≠ s' → Disjoint (tileSet c s) (tileSet c s') :=
  fun s _ s' _ hne => Finset.disjoint_left.mpr fun x h h' => by
    rw [mem_tileSet] at h h'
    exact hne (Fin.ext (by omega))
theorem cores_disjoint : ∀ c ∈ (Finset.univ : Finset (Fin 2)), ∀ c' ∈ (Finset.univ : Finset (Fin 2)), c ≠ c' → Disjoint (coreSet c) (coreSet c') :=
  fun c _ c' _ hne => Finset.disjoint_left.mpr fun x h h' => by
    rw [mem_coreSet] at h h'
    exact hne (Fin.ext (by omega))
theorem cores_univ : (Finset.univ : Finset (Fin 2)).biUnion coreSet = (Finset.univ : Finset S1024.Idx) :=
  Finset.eq_univ_iff_forall.mpr fun x => Finset.mem_biUnion.mpr ⟨⟨((x 0 : ℕ) / 16) % 2, by omega⟩, Finset.mem_univ _, (mem_coreSet _ x).mpr rfl⟩

/-- The partial sums whole are the tiles' places. -/
theorem parts_eq (d : Dev nD) (f : Buf (Elt F) (oLoc d)) :
    (oLoc d ↦{fullShare} f : sProp 𝕄) = bigSep Finset.univ fun c : Fin 2 => bigSep Finset.univ fun s : Fin 16 =>
      iprop((oLoc d ↦[(lossR (at0 c s)).set]{fullShare} f) ∗ oLoc d ↦[(countR (at0 c s)).set]{fullShare} f) := by
  have h := pointsTo_biUnion (ℓ := oLoc d) (q := fullShare) (f := f) (Ix := HIx 1) (Name := ℕ) (U := UU) (Lvl := ℕ) Finset.univ coreSet cores_disjoint
  refine (congrArg (fun S => (oLoc d ↦[S]{fullShare} f : sProp 𝕄)) cores_univ.symm).trans (h.trans (bigSep_congr fun c _ => ?_))
  refine (pointsTo_biUnion (ℓ := oLoc d) (q := fullShare) (f := f) (Ix := HIx 1) (Name := ℕ) (U := UU) (Lvl := ℕ) Finset.univ (tileSet c) (tiles_disjoint c)).trans
    (bigSep_congr fun s _ => ?_)
  exact BI.Entails.antisymm (pointsTo_union (loss_count_disjoint c s)).1 (pointsTo_union (loss_count_disjoint c s)).2

/-- A source dealt out to the tiles for reading. -/
theorem source_split {ℓ : Loc nD τ sig} (f : Buf (Elt F) ℓ) :
    (ℓ ↦{fullShare} f : sProp 𝕄) ⊢ bigSep Finset.univ fun c : Fin 2 => bigSep Finset.univ fun s : Fin 16 => ℓ ↦{tileShare c s} f :=
  (pointsTo_toks_split fullShare 2).trans (sep_elim_right.trans (bigSep_mono fun _ _ => (pointsTo_toks_split _ 16).trans sep_elim_right))

section Deal

variable (fp : (d : Dev nD) → Buf (Elt F) (pLoc d)) (ft : (d : Dev nD) → Buf (Elt F) (tLoc d)) (fm : (d : Dev nD) → Buf (Elt F) (mLoc d))

/-- The arrays of the launch are what the tiles are handed. -/
theorem deal (d : Dev nD) (fo : Buf (Elt F) (oLoc d)) :
    iprop((pLoc d ↦{fullShare} fp d) ∗ (tLoc d ↦{fullShare} ft d) ∗ (mLoc d ↦{fullShare} fm d) ∗ oLoc d ↦{fullShare} fo)
      ⊢ (bigSep Finset.univ fun c : Fin 2 => bigSep Finset.univ fun s : Fin 16 => goP fp ft fm d c s : sProp 𝕄) := by
  have e : (bigSep Finset.univ fun c : Fin 2 => bigSep Finset.univ fun s : Fin 16 => goP fp ft fm d c s : sProp 𝕄)
      = iprop((bigSep Finset.univ fun c : Fin 2 => bigSep Finset.univ fun s : Fin 16 => pLoc d ↦{tileShare c s} fp d)
        ∗ (bigSep Finset.univ fun c : Fin 2 => bigSep Finset.univ fun s : Fin 16 => tLoc d ↦{tileShare c s} ft d)
        ∗ (bigSep Finset.univ fun c : Fin 2 => bigSep Finset.univ fun s : Fin 16 => mLoc d ↦{tileShare c s} fm d)
        ∗ bigSep Finset.univ fun c : Fin 2 => bigSep Finset.univ fun s : Fin 16 =>
          iprop((∃ f, oLoc d ↦[(lossR (at0 c s)).set]{fullShare} f) ∗ (∃ f, oLoc d ↦[(countR (at0 c s)).set]{fullShare} f))) := by
    unfold goP
    simp only [bigSep_sep']
  have hany : (bigSep Finset.univ fun c : Fin 2 => bigSep Finset.univ fun s : Fin 16 =>
      iprop((oLoc d ↦[(lossR (at0 c s)).set]{fullShare} fo) ∗ oLoc d ↦[(countR (at0 c s)).set]{fullShare} fo))
      ⊢ (bigSep Finset.univ fun c : Fin 2 => bigSep Finset.univ fun s : Fin 16 =>
        iprop((∃ f, oLoc d ↦[(lossR (at0 c s)).set]{fullShare} f) ∗ (∃ f, oLoc d ↦[(countR (at0 c s)).set]{fullShare} f)) : sProp 𝕄) := by
    exact bigSep_mono fun c _ => bigSep_mono fun s _ => BI.sep_mono (exists_intro (Φ := fun f => iprop(oLoc d ↦[(lossR (at0 c s)).set]{fullShare} f)) fo)
      (exists_intro (Φ := fun f => iprop(oLoc d ↦[(countR (at0 c s)).set]{fullShare} f)) fo)
  rw [e, parts_eq d fo]
  iintro ⟨Hp, Ht, Hm, Ho⟩
  isplitl [Hp]; · iapply source_split; iexact Hp
  isplitl [Ht]; · iapply source_split; iexact Ht
  isplitl [Hm]; · iapply source_split; iexact Hm
  iapply hany; iexact Ho

variable [FloatOps F]

/-- The partial sums: the losses of the 32 tiles one after another, then their counts. -/
def parts (d : Dev nD) : Buf (Elt F) (oLoc d) := fun x =>
  let w := (x 0 : ℕ) % 512 / 16
  let i := at0 ⟨w % 2, Nat.mod_lt _ Nat.zero_lt_two⟩ ⟨w / 2 % 16, Nat.mod_lt _ (by decide)⟩
  let k : S16.Idx := fun a => match a with | ⟨0, _⟩ => ⟨(x 0 : ℕ) % 16, Nat.mod_lt _ (by decide)⟩
  if (x 0 : ℕ) < 512 then tileLoss (fm d) (fp d) (ft d) i k else tileCount (fm d) (fp d) (ft d) i k

theorem at_eq (c : Fin 2) (s : Fin 16) (w : ℕ) (hw : w = 2 * s.val + c.val) :
    at0 ⟨w % 2, Nat.mod_lt _ Nat.zero_lt_two⟩ ⟨w / 2 % 16, Nat.mod_lt _ (by decide)⟩ = at0 c s := by
  have := c.isLt
  have := s.isLt
  congr 1 <;> apply Fin.ext <;> dsimp only <;> omega

theorem lane_eq (k : S16.Idx) (n : ℕ) (hn : n % 16 = (k 0 : ℕ)) :
    (fun a => match a with | ⟨0, _⟩ => ⟨n % 16, Nat.mod_lt _ (by decide)⟩ : S16.Idx) = k := by
  funext a; fin_cases a; exact Fin.ext hn

theorem parts_loss (d : Dev nD) (c : Fin 2) (s : Fin 16) (k : S16.Idx) :
    parts fp ft fm d ((lossR (at0 c s)).emb k) = tileLoss (fm d) (fp d) (ft d) (at0 c s) k := by
  have hk : (k 0 : ℕ) < 16 := (k 0).isLt
  have := c.isLt
  have := s.isLt
  have h : (((lossR (at0 c s)).emb k) 0 : ℕ) = 16 * (2 * s.val + c.val) + (k 0 : ℕ) := by
    rw [Rect.emb_apply, ← lossR_off]; show _ + 1 * (k 0 : ℕ) = _; rw [one_mul]; rfl
  unfold parts
  dsimp only
  rw [if_pos (by omega), at_eq c s _ (by omega), lane_eq k _ (by omega)]
theorem parts_count (d : Dev nD) (c : Fin 2) (s : Fin 16) (k : S16.Idx) :
    parts fp ft fm d ((countR (at0 c s)).emb k) = tileCount (fm d) (fp d) (ft d) (at0 c s) k := by
  have hk : (k 0 : ℕ) < 16 := (k 0).isLt
  have := c.isLt
  have := s.isLt
  have h : (((countR (at0 c s)).emb k) 0 : ℕ) = 512 + 16 * (2 * s.val + c.val) + (k 0 : ℕ) := by
    rw [Rect.emb_apply, ← countR_off]; show _ + 1 * (k 0 : ℕ) = _; rw [one_mul]; rfl
  unfold parts
  dsimp only
  rw [if_neg (by omega), at_eq c s _ (by omega), lane_eq k _ (by omega)]

/-- A part handed back at its tile's values is that part of the partial sums. -/
theorem part_of (d : Dev nD) (r : Rect S1024) (v : r.shape.Idx → F .f32) (h : ∀ k, parts fp ft fm d (r.emb k) = v k) :
    iprop(∃ g : Buf (Elt F) (oLoc d), ⌜∀ k, g (r.emb k) = v k⌝ ∗ oLoc d ↦[r.set]{fullShare} g) ⊢ (oLoc d ↦[r.set]{fullShare} parts fp ft fm d : sProp 𝕄) := by
  iintro ⟨%g, %hg, H⟩
  rw [show (oLoc d ↦[r.set]{fullShare} parts fp ft fm d : sProp 𝕄) = oLoc d ↦[r.set]{fullShare} g from
    pointsTo_congr fun i hi => by
      obtain ⟨k, rfl⟩ := LoadRect.exists_idx_of_mem r.toLoadRect hi
      exact (h k).trans (hg k).symm]
  iexact H

/-- What the tiles hand back is the partial sums. -/
theorem gather (d : Dev nD) :
    (bigSep Finset.univ fun c : Fin 2 => bigSep Finset.univ fun s : Fin 16 => doneP fp ft fm d c s) ⊢ (oLoc d ↦{fullShare} parts fp ft fm d : sProp 𝕄) := by
  rw [parts_eq]
  refine bigSep_mono fun c _ => bigSep_mono fun s _ => ?_
  unfold doneP
  exact BI.sep_mono (part_of fp ft fm d (lossR (at0 c s)) _ (parts_loss fp ft fm d c s)) (part_of fp ft fm d (countR (at0 c s)) _ (parts_count fp ft fm d c s))

end Deal

end Cert.Proof

end
-- ==== Proof.Region.lean ====
/-
  A pallas_call of the TensorCore as a step of the program, the same for both: from its arrays at some
  contents to the same with the call's result replaced, nothing owed before or after.
-/
module

public import proofs.«01_k».proof.Proof.Base
public import proofs.«01_k».proof.Proof.Gen.KernelIdeal.Launch
public import proofs.«01_k».proof.Proof.Gen.KernelIdeal.Points
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MM F

/-- The contents of a core's buffers. -/
abbrev Vals (F : FTy → Type) : Type := (c : Dev nD) → (b : Ref sig .tc) → Buf (Elt F) ((c : Thread nD τ).loc b)

abbrev adm : (p : Fin 2) → (pcfgs (F := F) p).Adm := fun p => (cfgs p).toPCfg_adm

/-- The proof's data of both calls. -/
abbrev Dats (F : FTy → Type) : Type := (p : Fin 2) → (c : Dev nD) → Dat τ (Elt F) (HIx 1) ℕ UU ℕ (Pipeline.pin (pcfgs (F := F)) adm p) c

/-- The waits a core may have recorded when no call of the SparseCores is left. -/
abbrev past (c : Dev nD) : Set (SemLoc sig × HIx 1) := {x | (K (F := F)).lev ((c : Thread nD τ), x.1) x.2 ≤ 8 * SparseCore.Cfg.Blocks.fst (Q := 1) (N := 1) 1}

/-- Nothing owed, and no wait recorded but of the past. -/
def settled (c : Dev nD) : sProp 𝕄 :=
  iprop(∃ W, ⌜∀ x ∈ W, x ∈ past (F := F) c⌝ ∗ owes (c : Thread nD τ) (0 : CellTallies nD τ sig (HIx 1)) W)

/-- Proof data of the other call, where only one of the two is entered. -/
def junkDat [∀ e, Nonempty (Elt F e)] {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- A memref's buffer on a core, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The words of a pair. -/
abbrev ix2 (k : Fin 2) : S2.Idx := fun a => match a with | ⟨0, _⟩ => k

variable [FloatOps F]

/-- The arrays of a call at some contents. -/
def arrs (p : Fin 2) (c : Dev nD) (V : Vals F) : sProp 𝕄 :=
  bigSep Finset.univ fun w : Fin (cfgs p).W => (c : Thread nD τ).loc (Pipeline.arrRef (cfgs p).spec w) ↦{fullShare} V c (Pipeline.arrRef (cfgs p).spec w)

set_option backward.isDefEq.respectTransparency.types false in
/-- The call `p` as a step, from its proof data: its arrays at the contents `V` at entry, and at exit at the contents `Vp`. -/
def regOf (p : Fin 2) (hl : Pipeline.LaunchFacts (nD := nD) (τ := τ) cfgs p) (dats : Dats F) (V Vp : Vals F)
    (hq : ∀ c w, (dats p c).q w = fullShare) (howed : ∀ c t, (dats p c).owed t = 0)
    (hrec : ∀ c t, (dats p c).recorded t = past (F := F) c)
    (hbody : ∀ c, Pipeline.BodyObligationLoose (dats p c) (defs₀ (F := F)) 𝒱₀ none Set.univ)
    (hA : ∀ c w, (dats p c).A w = V c (Pipeline.arrRef (cfgs p).spec w))
    (hin : ∀ c, Pipeline.scopedRest (cfgs p).spec c ⊢ (dats p c).Φ 0)
    (hout : ∀ c, (dats p c).Φ (Fin.last _) ⊢ Pipeline.scopedRest (cfgs p).spec c)
    (hVp : ∀ c w, (dats p c).arrAt w (cfgs p).N = Vp c (Pipeline.arrRef (cfgs p).spec w)) :
    Pipeline.RegionSeg (pcfgs (F := F)) adm dats none defs₀ 𝒱₀ (K (F := F)).L (K (F := F)).lev p where
  win := hl.win.to₀
  block_pos := hl.block_pos
  stage_whole := hl.stage_whole
  K := PEmpty
  osem k := k.elim
  ho := Pipeline.OwnSemFacts.none _
  hbody c := hbody c
  hwaits := Pipeline.hwaits_of_owed_zero _ _ _ _ _ _ p howed
  pre c := iprop(arrs p c V ∗ settled c)
  post c := iprop(arrs p c Vp ∗ settled c)
  X _ := BI.emp
  Y _ := BI.emp
  Z _ := BI.emp
  hentry c := by
    rw [Pipeline.ownSems0_none]
    have harr : arrs p c V ⊢ (dats p c).arrays ((dats p c).arrAt · 0) := by
      rw [Pipeline.arrays_eq (Pipeline.pin (pcfgs (F := F)) adm) dats p c hl.arr_whole ((dats p c).share_full (hq c))]
      unfold arrs
      exact Entails.of_eq (bigSep_congr fun w _ => by rw [show (dats p c).arrAt w 0 = (dats p c).A w from rfl, hA])
    iintro ⟨⟨Ha, HO⟩, -, -⟩
    imodintro
    isplitl [Ha]; · iapply harr; iexact Ha
    isplitr; · unfold Pipeline.prefHeld; rw [show (Finset.univ : Finset (Fin 0)) = ∅ from rfl, BI.bigSep_empty]; iempintro
    isplitl [HO]
    · unfold Pipeline.Dat.owesAt Pipeline.owesWithin
      unfold settled
      rw [howed]
      icases HO with ⟨%W, %hW, HO⟩; iexists W; isplitr
      · ipureintro; exact fun x hx => Or.inl (by rw [hrec]; exact hW x hx)
      iexact HO
    isplitr <;> iempintro
  hin c := by
    iintro ⟨-, -, Hr⟩; iapply hin c; iexact Hr
  hout c := by
    rw [Pipeline.ownSems0_none]
    iintro Hr
    isplitr; · iempintro
    isplitr; · iempintro
    iapply hout c; iexact Hr
  hexit c := by
    have harr : (dats p c).arrays ((dats p c).arrAt · (cfgs p).N) ⊢ arrs p c Vp := by
      rw [Pipeline.arrays_eq (Pipeline.pin (pcfgs (F := F)) adm) dats p c hl.arr_whole ((dats p c).share_full (hq c))]
      unfold arrs
      exact Entails.of_eq (bigSep_congr fun w _ => by rw [hVp])
    iintro ⟨Ha, HO, -, -⟩
    imodintro
    isplitl [Ha]; · iapply harr; iexact Ha
    unfold Pipeline.Dat.owesAt Pipeline.owesWithin settled
    rw [howed]
    icases HO with ⟨%W, %hW, HO⟩; iexists W; isplitr
    · ipureintro; intro x hx
      rcases hW hx with h | ⟨w, s, rfl⟩
      · rw [hrec] at h; exact h
      · exact Nat.zero_le _
    iexact HO

end Cert.Proof

end
-- ==== Proof.Sum.lean ====
/-
  The kernel of the first blocks: at each point it adds a block's masked squares and kept places to two running sums,
  and at the last point it hands them out.
-/
module

public import proofs.«01_k».proof.Proof.Region

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The body -/

/-- Whether a point is the first. -/
abbrev isFirst (i : grid1.Coords) : Prop :=
  Scalar.cmpi .ne (Scalar.extui (Scalar.cmpi .eq (BitVec.ofNat 32 (i 0).val) 0#32) : BitVec 32) 0#32 = 1#1

/-- Two words as a pair. -/
abbrev pair (z : F .f32 × F .f32) : Vec F S2 .f32 := fun j => if (j 0 : Nat) = 0 then z.1 else z.2

abbrev zeros : F .f32 × F .f32 := (Scalar.ofBits .f32 0x00000000#32, Scalar.ofBits .f32 0x00000000#32)

/-- The two sums, one block on. -/
def sumStep (P T : Vec F S1x3x512x512 .f32) (M : Vec F S1x1x512x512 .i8) (z : F .f32 × F .f32) : F .f32 × F .f32 :=
  (k1_pay2 M T P z.1, k1_pay3 M z.2)

/-- What a point starts from: zero at the first, else the sums so far. -/
def sumFrom (i : grid1.Coords) (Y : Vec F S2 .f32) : F .f32 × F .f32 :=
  if isFirst i then zeros else (Y (ix2 0), Y (ix2 1))

/-! ### Words of a pair under stores and loads of one word -/

section Words

variable {κ : Kind} {sp : Space} (v : View sig κ sp S2 .f32) (f : v.ty.Contents (Elt F)) (a b : F .f32) (L : List (View.Piece (Elt F) S2 .f32))

abbrev R0 : Rect S2 := Rect.unit (s := S2) ![0] S1.size inb_S2_S1_0
abbrev R1 : Rect S2 := Rect.unit (s := S2) ![1] S1.size inb_S2_S1_1

theorem first_R0 (x : S1.Idx) : R0.idx x = ix2 0 := by
  have : (x 0 : Nat) < 1 := (x 0).isLt
  funext a; fin_cases a; exact Fin.ext (by show 0 + 1 * (x 0 : Nat) = 0; omega)
theorem first_R1 (x : S1.Idx) : R1.idx x = ix2 1 := by
  have : (x 0 : Nat) < 1 := (x 0).isLt
  funext a; fin_cases a; exact Fin.ext (by show 1 + 1 * (x 0 : Nat) = 1; omega)

theorem word_hit0 : v.read (Elt F) (v.writes (Elt F) f (⟨R0, fun _ => a⟩ :: L)) (ix2 0) = a :=
  View.read_writes_cons_hit v f R0 (fun _ => a) L (Shape.Idx.first numel1_S1.symm.le) _ (first_R0 _)
theorem word_hit1 : v.read (Elt F) (v.writes (Elt F) f (⟨R1, fun _ => b⟩ :: L)) (ix2 1) = b :=
  View.read_writes_cons_hit v f R1 (fun _ => b) L (Shape.Idx.first numel1_S1.symm.le) _ (first_R1 _)
theorem word_miss0 : v.read (Elt F) (v.writes (Elt F) f (⟨R0, fun _ => a⟩ :: L)) (ix2 1) = v.read (Elt F) (v.writes (Elt F) f L) (ix2 1) :=
  View.read_writes_cons_miss_of_axis v f _ L _ 0 0 1 rfl rfl rfl (.inr (le_refl 1))
theorem word_miss1 : v.read (Elt F) (v.writes (Elt F) f (⟨R1, fun _ => b⟩ :: L)) (ix2 0) = v.read (Elt F) (v.writes (Elt F) f L) (ix2 0) :=
  View.read_writes_cons_miss_of_axis v f _ L _ 0 1 1 rfl rfl rfl (.inl Nat.zero_lt_one)

theorem readAt_R0 (x : S1.Idx) : v.readAt (Elt F) R0.toLoadRect f x = v.read (Elt F) f (ix2 0) := congrArg (v.read (Elt F) f) (first_R0 x)
theorem readAt_R1 (x : S1.Idx) : v.readAt (Elt F) R1.toLoadRect f x = v.read (Elt F) f (ix2 1) := congrArg (v.read (Elt F) f) (first_R1 x)
theorem readCov_R0 (x : S1.Idx) : v.readCov L R0.toLoadRect x = v.read (Elt F) (v.writes (Elt F) v.junk L) (ix2 0) := congrArg _ (first_R0 x)
theorem readCov_R1 (x : S1.Idx) : v.readCov L R1.toLoadRect x = v.read (Elt F) (v.writes (Elt F) v.junk L) (ix2 1) := congrArg _ (first_R1 x)

/-- Both words of a pair. -/
theorem pair_ext {X Y : Vec F S2 .f32} (h0 : X (ix2 0) = Y (ix2 0)) (h1 : X (ix2 1) = Y (ix2 1)) : X = Y := by
  funext j
  have hj : (j 0 : Nat) < 2 := (j 0).isLt
  rcases (by omega : (j 0 : Nat) = 0 ∨ (j 0 : Nat) = 1) with h | h
  · rw [show j = ix2 0 from funext fun a => by fin_cases a; exact Fin.ext h]; exact h0
  · rw [show j = ix2 1 from funext fun a => by fin_cases a; exact Fin.ext h]; exact h1

end Words

/-- A load of a whole memref reads its contents. -/
theorem readAt_all {κ : Kind} {sp : Space} {s : Shape} {e : EltTy} (v : View sig κ sp s e) (f : v.ty.Contents (Elt F)) {off : Fin s.rank → Nat} (h : off = fun _ => 0)
    (inb : ∀ a, off a + s.size a ≤ s.size a) : v.readAt (Elt F) (Rect.unit off s.size inb).toLoadRect f = v.read (Elt F) f :=
  View.ld_unit_zero h inb (v.read (Elt F) f)

theorem zeros4 : (![0, 0, 0, 0] : Fin 4 → Nat) = fun _ => 0 := funext fun a => by fin_cases a <;> rfl

theorem sum_wp (c : Dev nD) (i : grid1.Coords) (M1 : Memref sig .tc .vmem S1x3x512x512 .f32) (h1 : M1.IsWhole) (M2 : Memref sig .tc .vmem S1x3x512x512 .f32) (h2 : M2.IsWhole)
    (M3 : Memref sig .tc .vmem S1x1x512x512 .i8) (h3 : M3.IsWhole) (M4 : Memref sig .tc .smem S2 .f32) (h4 : M4.IsWhole) (M5 : Memref sig .tc .smem S2 .f32) (h5 : M5.IsWhole)
    (f1 : Bf (F := F) c M1) (f2 : Bf (F := F) c M2) (f3 : Bf (F := F) c M3) (f4 : Bf (F := F) c M4) (f5 : Bf (F := F) c M5)
    (E : Set ℕ) (Q : PUnit → sProp 𝕄) :
    iprop(pt c M1 f1 ∗ pt c M2 f2 ∗ pt c M3 f3 ∗ pt c M4 f4 ∗ pt c M5 f5
        ∗ (∀ f4' f5', iprop(⌜M5.view.read (Elt F) f5' = pair (sumStep (M1.view.read (Elt F) f1) (M2.view.read (Elt F) f2) (M3.view.read (Elt F) f3)
                (sumFrom i (M5.view.read (Elt F) f5)))
              ∧ if k1_cond2 i = 1#1 then M4.view.read (Elt F) f4' = M5.view.read (Elt F) f5' else f4' = f4⌝
            ∗ pt c M1 f1 ∗ pt c M2 f2 ∗ pt c M3 f3 ∗ pt c M4 f4' ∗ pt c M5 f5') -∗ Q ⟨⟩))
      ⊢ wp frame (wpE (defs₀ (F := F)) 𝒱₀ c none) E (cc1__tc_body i M1 h1 M2 h2 M3 h3 M4 h4 M5 h5) Q := by
  rw [cc1__tc_body_eq_skeleton]
  unfold cc1__tc_body_skel
  rw [k1_part1_eq_skeleton]
  iintro ⟨H1, H2, H3, H4, H5, Hk⟩
  by_cases hi : isFirst i <;> by_cases hl : k1_cond2 i = 1#1
  all_goals
    sl_exec!
    sl_step
    iapply Hk
    isplitr; swap
    · isplitl [H1]; · iexact H1
      isplitl [H2]; · iexact H2
      isplitl [H3]; · iexact H3
      isplitl [H4]; · iexact H4
      iexact H5
    ipureintro
    sl_unfold_words
    unfold sumFrom sumStep
    first | rw [if_pos hi] | rw [if_neg hi]
    first | rw [if_pos hl] | rw [if_neg hl]
    refine ⟨pair_ext ?_ ?_, ?_⟩
  all_goals
    try refine pair_ext ?_ ?_
  all_goals
    repeat rw [readAt_all _ _ zeros4]
    repeat first
      | rw [readCov_R0] | rw [readCov_R1] | rw [readAt_R0] | rw [readAt_R1]
      | rw [word_hit0] | rw [word_hit1] | rw [word_miss0] | rw [word_miss1]
    try rfl

/-! ## The call's proof data -/

variable (V : Vals F)

/-- The blocks of a point as the call's fetches stage them. -/
abbrev stgP (c : Dev nD) (t : Fin cfg1.N) : Vec F S1x3x512x512 .f32 := ((cfg1.win 0).blk t).view.read (Elt F) (V c main_arg0)
abbrev stgT (c : Dev nD) (t : Fin cfg1.N) : Vec F S1x3x512x512 .f32 := ((cfg1.win 1).blk t).view.read (Elt F) (V c main_arg1)
abbrev stgM (c : Dev nD) (t : Fin cfg1.N) : Vec F S1x1x512x512 .i8 := ((cfg1.win 2).blk t).view.read (Elt F) (V c main_v6)

/-- The two sums when `n` points are done. -/
def sums (c : Dev nD) : ℕ → F .f32 × F .f32
  | 0 => zeros
  | n + 1 => if h : n < cfg1.N then sumStep (stgP V c ⟨n, h⟩) (stgT V c ⟨n, h⟩) (stgM V c ⟨n, h⟩) (sums c n) else sums c n

theorem sums_succ (c : Dev nD) (t : Fin cfg1.N) : sums V c (t.val + 1) = sumStep (stgP V c t) (stgT V c t) (stgM V c t) (sums V c t.val) :=
  dif_pos t.isLt

/-- What the points keep between them: the sums so far, in the words of the scratch. -/
def sumInv (c : Dev nD) (n : ℕ) : sProp 𝕄 :=
  iprop((∃ f : Buf (Elt F) ((c : Thread nD τ).loc cc2_stg0_0), (c : Thread nD τ).loc cc2_stg0_0 ↦{fullShare} f)
    ∗ (∃ f : Buf (Elt F) ((c : Thread nD τ).loc cc1_scratch0), ⌜n ≠ 0 → f = pair (sums V c n)⌝ ∗ (c : Thread nD τ).loc cc1_scratch0 ↦{fullShare} f)
    ∗ (∃ f : Buf (Elt F) ((c : Thread nD τ).loc cc2_stg1_0), (c : Thread nD τ).loc cc2_stg1_0 ↦{fullShare} f)
    ∗ (∃ f : Buf (Elt F) ((c : Thread nD τ).loc cc2_stg2_0), (c : Thread nD τ).loc cc2_stg2_0 ↦{fullShare} f))

def sumDat (c : Dev nD) : Dat τ (Elt F) (HIx 1) ℕ UU ℕ cfg1 c where
  A w := V c (Pipeline.arrRef spec1 w)
  after w t := match w with
    | ⟨0, _⟩ => stgP V c t
    | ⟨1, _⟩ => stgT V c t
    | ⟨2, _⟩ => stgM V c t
    | ⟨3, _⟩ => pair (sums V c (t.val + 1))
  Φ n := sumInv V c n.val
  q _ := fullShare
  owed _ := 0
  recorded _ := past (F := F) c

theorem sum_before0 (c : Dev nD) (t : Fin cfg1.N) (d : (cfg1.win 0).block.Idx → Elt F (cfg1.win 0).elt) : (sumDat V c).before 0 t d = stgP V c t := by
  unfold Dat.before; rw [if_pos (fetch1_0 t)]; rfl
theorem sum_before1 (c : Dev nD) (t : Fin cfg1.N) (d : (cfg1.win 1).block.Idx → Elt F (cfg1.win 1).elt) : (sumDat V c).before 1 t d = stgT V c t := by
  unfold Dat.before; rw [if_pos (fetch1_1 t)]; rfl
theorem sum_before2 (c : Dev nD) (t : Fin cfg1.N) (d : (cfg1.win 2).block.Idx → Elt F (cfg1.win 2).elt) : (sumDat V c).before 2 t d = stgM V c t := by
  unfold Dat.before; rw [if_pos (fetch1_2 t)]; rfl

theorem isFirst_iff : ∀ t : Fin cfg1.N, isFirst (grid1.coords t) ↔ t.val = 0 :=
  (by decide +kernel : ∀ t : Fin grid1.N, isFirst (grid1.coords t) ↔ t.val = 0)
theorem isLast_iff : ∀ t : Fin cfg1.N, k1_cond2 (grid1.coords t) = 1#1 ↔ t.val % 12 = 11 :=
  (by decide +kernel : ∀ t : Fin grid1.N, k1_cond2 (grid1.coords t) = 1#1 ↔ t.val % 12 = 11)

/-- What a point starts from, of the scratch the points before left. -/
theorem sumFrom_eq (c : Dev nD) (t : Fin cfg1.N) (f : Vec F S2 .f32) (hf : t.val ≠ 0 → f = pair (sums V c t.val)) :
    sumFrom (grid1.coords t) f = sums V c t.val := by
  unfold sumFrom
  by_cases h : t.val = 0
  · rw [if_pos ((isFirst_iff t).mpr h), h]; rfl
  · rw [if_neg fun h' => h ((isFirst_iff t).mp h'), hf h]; rfl

/-- A whole memref owned is its buffer held. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

set_option maxHeartbeats 1000000 in
theorem sum_body (c : Dev nD) : BodyObligation (sumDat V c) (defs₀ (F := F)) 𝒱₀ none Set.univ := fun t => by
  rw [bigSep_W1]
  show _ ⊢ wp frame _ _ (bodyAt1 t) fun _ => iprop((sumDat V c).Φ t.succ ∗ (sumDat V c).owesAt none t.succ
    ∗ bigSep Finset.univ fun w : Fin 4 => (sumDat V c).leavesExact w t)
  rw [bigSep_W1]
  rw [show (sumDat V c).Φ t.castSucc = sumInv V c t.val from rfl, show (sumDat V c).Φ t.succ = sumInv V c (t.val + 1) from rfl,
    show (sumDat V c).owesAt none t.succ = (sumDat V c).owesAt none t.castSucc from rfl,
    show (sumDat V c).leavesExact 0 t = owns (c : Thread nD τ) ((cfg1.win 0).stage (cfg1.slots t 0)) fullShare (stgP V c t) from rfl,
    show (sumDat V c).leavesExact 1 t = owns (c : Thread nD τ) ((cfg1.win 1).stage (cfg1.slots t 1)) fullShare (stgT V c t) from rfl,
    show (sumDat V c).leavesExact 2 t = owns (c : Thread nD τ) ((cfg1.win 2).stage (cfg1.slots t 2)) fullShare (stgM V c t) from rfl]
  have e0 := fun X => owns_pt (F := F) c ((cfg1.win 0).stage (cfg1.slots t 0)) (hstage1_0 ((cfg1.slots t 0).cast nbuf1_0)) X
  have e1 := fun X => owns_pt (F := F) c ((cfg1.win 1).stage (cfg1.slots t 1)) (hstage1_1 ((cfg1.slots t 1).cast nbuf1_1)) X
  have e2 := fun X => owns_pt (F := F) c ((cfg1.win 2).stage (cfg1.slots t 2)) (hstage1_2 ((cfg1.slots t 2).cast nbuf1_2)) X
  have e3 := fun X => owns_pt (F := F) c ((cfg1.win 3).stage (cfg1.slots t 3)) (hstage1_3 ((cfg1.slots t 3).cast nbuf1_3)) X
  simp only [e0, e1, e2, e3, sum_before0, sum_before1, sum_before2]
  unfold sumInv
  iintro ⟨⟨Hr0, ⟨%f5, %hf5, H5⟩, Hr1, Hr2⟩, Howes, ⟨%d0, %f1, %hf1, H1⟩, ⟨%d1, %f2, %hf2, H2⟩, ⟨%d2, %f3, %hf3, H3⟩, ⟨%d3, %f4, %hf4, H4⟩⟩
  iapply (sum_wp c (grid1.coords t) _ _ _ _ _ _ _ _ (Memref.whole cc1_scratch0) (Memref.isWhole_whole _) f1 f2 f3 f4 f5 Set.univ _)
  isplitl [H1]; · iexact H1
  isplitl [H2]; · iexact H2
  isplitl [H3]; · iexact H3
  isplitl [H4]; · iexact H4
  isplitl [H5]; · iexact H5
  iintro %f4' %f5' ⟨%h45, H1, H2, H3, H4, H5⟩
  obtain ⟨h5, h4⟩ := h45
  rw [hf1, hf2, hf3] at h5
  have h5' : f5' = pair (sums V c (t.val + 1)) := by
    rw [sums_succ, ← sumFrom_eq V c t f5 hf5]; exact h5
  isplitl [Hr0 Hr1 Hr2 H5]
  · isplitl [Hr0]; · iexact Hr0
    isplitl [H5]
    · iexists f5'; isplitr; swap; (· iexact H5)
      ipureintro; exact fun _ => h5'
    isplitl [Hr1]; · iexact Hr1
    iexact Hr2
  isplitl [Howes]; · iexact Howes
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  by_cases hl : k1_cond2 (grid1.coords t) = 1#1
  · rw [if_pos hl] at h4
    have : (sumDat V c).leavesExact 3 t = owns (c : Thread nD τ) ((cfg1.win 3).stage (cfg1.slots t 3)) fullShare (pair (sums V c (t.val + 1))) := by
      have hi : cfg1.idle 3 (cfg1.grid.coords t) = false := by
        show (!(k1_cond2 (grid1.coords t) == 1#1)) = false
        rw [hl]; rfl
      unfold Dat.leavesExact; rw [hi]; rfl
    rw [this, e3]
    iexists f4'; isplitr; swap; (· iexact H4)
    ipureintro; exact h4.trans h5'
  · rw [if_neg hl] at h4
    rw [(sumDat V c).leavesExact_idle 3 t
      (by show (!(k1_cond2 (grid1.coords t) == 1#1)) = true; simp [hl])
      (by
        have := (flush1_3 t).not.mpr fun h => hl ((isLast_iff t).mpr h)
        exact Bool.eq_false_iff.mpr this)]
    iexists d3
    rw [e3]
    iexists f4'; isplitr; swap; (· iexact H4)
    ipureintro; rw [h4]; exact hf4

/-- The result of the call: the two sums when all points are done. -/
theorem sum_arr (c : Dev nD) : (sumDat V c).arrAt 3 cfg1.N = pair (sums V c 12) :=
  (sumDat V c).arrAt_eq_of_cover 3 (pair (sums V c 12))
    (fun t ht => by
      have : t.val = 11 := by
        have h1 := (flush1_3 t).mp ht
        have h2 : t.val < 12 := lt_of_lt_of_eq t.isLt N_1
        omega
      obtain rfl : t = t1_11 := Fin.ext this
      show pair (sums V c 12) = _
      funext j
      show _ = pair (sums V c 12) _
      congr 1; funext a; apply Fin.ext; fin_cases a
      exact ((Rect.emb_apply _ _ _).trans (by simp; rfl)).symm)
    (fun i => ⟨t1_11, (flush1_3 _).mpr rfl, by
      show i ∈ ((View.whole main_v7).slice ((cfg1.win 3).rect t1_11)).set
      rw [View.set_slice_whole, Rect.mem_set_unit]
      intro a; fin_cases a
      have : (i 0 : Nat) < 2 := (i 0).isLt
      show 0 * 2 ≤ (i 0 : Nat) ∧ (i 0 : Nat) < 0 * 2 + 2
      omega⟩)

variable [∀ e, Nonempty (Elt F e)]

def sumDats : Dats F
  | ⟨0, _⟩ => fun c => sumDat V c
  | ⟨1, _⟩ => fun c => junkDat c

/-- The call as a step: its result replaced by the two sums. -/
def sumReg (Vp : Vals F) (hout : ∀ c, Vp c main_v7 = pair (sums V c 12)) (hne : ∀ c b, b ≠ main_v7 → Vp c b = V c b) :=
  regOf (F := F) 0 launch1 (sumDats V) V Vp (fun _ _ => rfl) (fun _ _ => rfl) (fun _ _ => rfl) (fun c => (sum_body V c).loose)
    (fun _ _ => rfl)
    (fun c => by
      rw [show Pipeline.scopedRest (cfgs 0).spec c = _ from scopedRest1_eq c]
      show _ ⊢ sumInv V c 0
      unfold sumInv
      iintro ⟨H0, ⟨%f, H1⟩, H2, H3⟩
      isplitl [H0]; · iexact H0
      isplitl [H1]; · iexists f; isplitr; swap; (· iexact H1); ipureintro; exact fun h => absurd rfl h
      isplitl [H2]; · iexact H2
      iexact H3)
    (fun c => by
      rw [show Pipeline.scopedRest (cfgs 0).spec c = _ from scopedRest1_eq c]
      show sumInv V c _ ⊢ _
      unfold sumInv
      iintro ⟨H0, ⟨%f, -, H1⟩, H2, H3⟩
      isplitl [H0]; · iexact H0
      isplitl [H1]; · iexists f; iexact H1
      isplitl [H2]; · iexact H2
      iexact H3)
    (fun c w => by
      fin_cases w
      · exact ((sumDat V c).arrAt_in 0 rfl _).trans (hne c main_arg0 (by decide)).symm
      · exact ((sumDat V c).arrAt_in 1 rfl _).trans (hne c main_arg1 (by decide)).symm
      · exact ((sumDat V c).arrAt_in 2 rfl _).trans (hne c main_v6 (by decide)).symm
      · exact (sum_arr V c).trans (hout c).symm)

end Cert.Proof

end
-- ==== Proof.Combine.lean ====
/-
  The last kernel: it adds the tiles' partial sums to the two sums the blocks left and divides.
-/
module

public import proofs.«01_k».proof.Proof.Region

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The quotient the kernel stores, from the partial sums `X` and the two sums `Y`. -/
def ratio (X : Vec F S1024 .f32) (Y : Vec F S2 .f32) : F .f32 :=
  k2_pay1 (View.ld X (Rect.unit (s := S1024) ![0] S512.size inb_S1024_S512_0)) (Y (ix2 0))
    (View.ld X (Rect.unit (s := S1024) ![512] S512.size inb_S1024_S512_512)) (Y (ix2 1))

theorem combine_wp (c : Dev nD) (M0 : Memref sig .tc .vmem S1024 .f32) (h0 : M0.IsWhole) (M1 : Memref sig .tc .smem S2 .f32) (h1 : M1.IsWhole)
    (M2 : Memref sig .tc .smem S1 .f32) (h2 : M2.IsWhole) (f0 : Bf (F := F) c M0) (f1 : Bf (F := F) c M1) (f2 : Bf (F := F) c M2)
    (E : Set ℕ) (Q : PUnit → sProp 𝕄) :
    iprop(pt c M0 f0 ∗ pt c M1 f1 ∗ pt c M2 f2
        ∗ (∀ f2', iprop(⌜M2.view.read (Elt F) f2' = fun _ => ratio (M0.view.read (Elt F) f0) (M1.view.read (Elt F) f1)⌝
            ∗ pt c M0 f0 ∗ pt c M1 f1 ∗ pt c M2 f2') -∗ Q ⟨⟩))
      ⊢ wp frame (wpE (defs₀ (F := F)) 𝒱₀ c none) E (cc2__combine_body M0 h0 M1 h1 M2 h2) Q := by
  rw [cc2__combine_body_eq_skeleton]
  iintro ⟨H0, H1, H2, Hk⟩
  sl_exec!
  sl_step
  iapply Hk
  isplitr; swap
  · isplitl [H0]; · iexact H0
    isplitl [H1]; · iexact H1
    iexact H2
  ipureintro
  funext j
  sl_unfold_words
  rw [View.read_writes_cons_hit _ _ _ _ _ j j (funext fun a => Fin.ext (by fin_cases a; have : (j 0 : Nat) < 1 := (j 0).isLt; rw [Rect.emb_apply]; show 0 + 1 * (j 0 : Nat) = (j 0 : Nat); omega))]
  unfold ratio View.ld View.readAt
  congr 1 <;> congr 1 <;> funext a <;> fin_cases a <;> rfl

/-! ## The call's proof data -/

variable (V : Vals F)

/-- The partial sums and the two sums as the call's fetches stage them: whole. -/
abbrev stgX (c : Dev nD) : Vec F S1024 .f32 := ((cfg2.win 0).blk t2_0).view.read (Elt F) (V c main_v5)
abbrev stgY (c : Dev nD) : Vec F S2 .f32 := ((cfg2.win 1).blk t2_0).view.read (Elt F) (V c main_v7)

/-- The quotient. -/
def quot (c : Dev nD) : F .f32 := ratio (V c main_v5) (V c main_v7)

theorem stgX_eq (c : Dev nD) : stgX V c = V c main_v5 := by
  funext i; show V c main_v5 _ = _; congr 1; funext a; apply Fin.ext; fin_cases a; exact (Rect.emb_apply _ _ _).trans (by simp; exact Or.inl rfl)
theorem stgY_eq (c : Dev nD) : stgY V c = V c main_v7 := by
  funext i; show V c main_v7 _ = _; congr 1; funext a; apply Fin.ext; fin_cases a; exact (Rect.emb_apply _ _ _).trans (by simp; exact Or.inl rfl)

def combineDat (c : Dev nD) : Dat τ (Elt F) (HIx 1) ℕ UU ℕ cfg2 c where
  A w := V c (Pipeline.arrRef spec2 w)
  after w _ := match w with
    | ⟨0, _⟩ => stgX V c
    | ⟨1, _⟩ => stgY V c
    | ⟨2, _⟩ => fun _ => quot V c
  Φ _ := Pipeline.scopedRest spec2 c
  q _ := fullShare
  owed _ := 0
  recorded _ := past (F := F) c

theorem combine_before0 (c : Dev nD) (d : (cfg2.win 0).block.Idx → Elt F (cfg2.win 0).elt) : (combineDat V c).before 0 t2_0 d = stgX V c := by
  unfold Dat.before; rw [if_pos (fetch2_0 _)]; rfl
theorem combine_before1 (c : Dev nD) (d : (cfg2.win 1).block.Idx → Elt F (cfg2.win 1).elt) : (combineDat V c).before 1 t2_0 d = stgY V c := by
  unfold Dat.before; rw [if_pos (fetch2_1 _)]; rfl

theorem combine_body (c : Dev nD) : BodyObligation (combineDat V c) (defs₀ (F := F)) 𝒱₀ none Set.univ := fun t => by
  obtain rfl := fin_N2 t
  rw [bigSep_W2, bigSep_W2]
  simp only [owns_whole_eq]
  rw [show (combineDat V c).Φ t2_0.castSucc = (combineDat V c).Φ t2_0.succ from rfl,
    show (combineDat V c).owesAt none t2_0.succ = (combineDat V c).owesAt none t2_0.castSucc from rfl]
  iintro ⟨HΦ, Howes, ⟨%d0, %f0, %hf0, H0⟩, ⟨%d1, %f1, %hf1, H1⟩, ⟨%d2, %f2, -, H2⟩⟩
  rw [combine_before0] at hf0
  rw [combine_before1] at hf1
  iapply (combine_wp c (stage2_0 0) (hstage2_0 0) (stage2_1 0) (hstage2_1 0) (stage2_2 0) (hstage2_2 0) f0 f1 f2 Set.univ _)
  isplitl [H0]; · iexact H0
  isplitl [H1]; · iexact H1
  isplitl [H2]; · iexact H2
  iintro %f2' ⟨%h2, H0, H1, H2⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists f2'; isplitr; swap; (· iexact H2); ipureintro
  refine h2.trans ?_
  rw [show (stage2_0 0).view.read (Elt F) f0 = stgX V c from hf0, show (stage2_1 0).view.read (Elt F) f1 = stgY V c from hf1, stgX_eq, stgY_eq]
  rfl

variable [∀ e, Nonempty (Elt F e)]

def combineDats : Dats F
  | ⟨0, _⟩ => fun c => junkDat c
  | ⟨1, _⟩ => fun c => combineDat V c

/-- The result of the call: the quotient. -/
theorem combine_arr (c : Dev nD) : (combineDat V c).arrAt 2 cfg2.N = fun _ => quot V c :=
  (combineDat V c).arrAt_eq_of_cover 2 (fun _ => quot V c) (fun t _ => by obtain rfl := fin_N2 t; rfl)
    (fun i => ⟨t2_0, flush2_2 _, by
      show i ∈ ((View.whole main_v8).slice ((cfg2.win 2).rect t2_0)).set
      rw [View.set_slice_whole, Rect.mem_set_unit]
      intro a; fin_cases a
      have : (i 0 : Nat) < 1 := (i 0).isLt
      show 0 * 1 ≤ (i 0 : Nat) ∧ (i 0 : Nat) < 0 * 1 + 1
      omega⟩)

/-- The call as a step: its result replaced by the quotient. -/
def combineReg (Vp : Vals F) (hout : ∀ c, Vp c main_v8 = fun _ => quot V c) (hne : ∀ c b, b ≠ main_v8 → Vp c b = V c b) :=
  regOf (F := F) 1 launch2 (combineDats V) V Vp (fun _ _ => rfl) (fun _ _ => rfl) (fun _ _ => rfl) (fun c => (combine_body V c).loose)
    (fun _ _ => rfl) (fun _ => .rfl) (fun _ => .rfl)
    (fun c w => by
      fin_cases w
      · exact ((combineDat V c).arrAt_in 0 rfl _).trans (hne c main_v5 (by decide)).symm
      · exact ((combineDat V c).arrAt_in 1 rfl _).trans (hne c main_v7 (by decide)).symm
      · exact (combine_arr V c).trans (hout c).symm)

end Cert.Proof

end
-- ==== Proof.Run.lean ====
/-
  The run of the whole program, over any float instance: every thread ends, the arguments as they were, the counters
  at zero, and the result the quotient of the sums.
-/
module

public import proofs.«01_k».proof.Proof.Tiles
public import proofs.«01_k».proof.Proof.Sum
public import proofs.«01_k».proof.Proof.Combine

@[expose] public section

noncomputable section

namespace Cert.Proof

open Cert.KernelIdeal Cert.KernelIdeal.Gen
open Idealize.ShloMosaic Idealize.ShloMosaic.StableHlo
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the two calls of the TensorCore take of it, on a core. -/
def ghost (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem bigSep_emp' {I : Type} (s : Finset I) : (bigSep s fun _ => iprop(emp)) = (iprop(emp) : sProp 𝕄) := bigSep_emp_const s

theorem ghost_eq (d : Dev nD) : (ghost d : sProp 𝕄)
    = iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ Pipeline.toksInit (Pipeline.pin (pcfgs (F := F)) adm) EP 1 d) := by
  unfold ghost
  rw [show (Finset.univ : Finset (Fin 2)) = {0, 1} by decide]
  iterate 2 rw [SparseCore.bigSep_insert' (by decide), bigSep_singleton]

variable [FloatOps F]

section Fund

variable (fp : (d : Dev nD) → Buf (Elt F) (pLoc d)) (ft : (d : Dev nD) → Buf (Elt F) (tLoc d)) (fm : (d : Dev nD) → Buf (Elt F) (mLoc d))

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P fp ft fm).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cellOf_inj) $$ HP with HG
  imodintro
  isplitl [HH]; · iexact HH
  isplitl [HG]
  · unfold ghost
    rw [bigSep_sep']
    iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Fund

/-! ## An operation of the host -/

/-- An operation that writes `y` from `x` alone, the two held. -/
theorem host_step (d : Dev nD) {x y : Ref sig .tc} (hxy : (Proc.devRef .tc x : DevRef τ sig) ≠ Proc.devRef .tc y) (op : HloOp τ sig (Elt F))
    (hS : op.bufs ⊆ {Proc.devRef .tc x, Proc.devRef .tc y}) (g : x.ty.Contents (Elt F) → y.ty.Contents (Elt F))
    (hx : ∀ W, op.result W (Proc.devRef .tc x) = W (Proc.devRef .tc x)) (hy : ∀ W, op.result W (Proc.devRef .tc y) = g (W (Proc.devRef .tc x)))
    (hf : op.fresh = ∅) (W₀ : Valuation τ sig (Elt F)) (fx : Buf (Elt F) ((SparseCore.T d : Thread nD τ).loc x)) (fy : Buf (Elt F) ((SparseCore.T d : Thread nD τ).loc y))
    (Q : PUnit → sProp 𝕄) :
    iprop(boundary (SparseCore.T d) ∗ ((SparseCore.T d : Thread nD τ).loc x ↦{fullShare} fx) ∗ ((SparseCore.T d : Thread nD τ).loc y ↦{fullShare} fy)
        ∗ ((boundary (SparseCore.T d) ∗ ((SparseCore.T d : Thread nD τ).loc x ↦{fullShare} fx) ∗ ((SparseCore.T d : Thread nD τ).loc y ↦{fullShare} g fx)) -∗ Q ⟨⟩))
      ⊢ wp frame (wpE ((K (F := F)).defs (D (F := F))) 𝒱 (SparseCore.T d) none) Set.univ (hlo rfl op fun _ => .ret ⟨⟩) Q := by
  have hold (W : Valuation τ sig (Elt F)) : (held (SparseCore.T d) {Proc.devRef .tc x, Proc.devRef .tc y} W : sProp 𝕄)
      = iprop(((SparseCore.T d : Thread nD τ).loc x ↦{fullShare} W (Proc.devRef .tc x)) ∗ ((SparseCore.T d : Thread nD τ).loc y ↦{fullShare} W (Proc.devRef .tc y))) := by
    unfold held
    rw [SparseCore.bigSep_insert' (by rwa [Finset.mem_singleton]), bigSep_singleton]
  let W : Valuation τ sig (Elt F) := Function.update (Function.update W₀ (Proc.devRef .tc y) fy) (Proc.devRef .tc x) fx
  have hWx : W (Proc.devRef .tc x) = fx := Function.update_self _ _ _
  have hWy : W (Proc.devRef .tc y) = fy := (Function.update_of_ne hxy.symm _ _).trans (Function.update_self _ _ _)
  iintro ⟨Hb, Hx, Hy, Hk⟩
  iapply (wp_hlo_within 𝒱 (SparseCore.T d) none Set.univ (op := op) (S := {Proc.devRef .tc x, Proc.devRef .tc y}) hS (V := W) (hf := hf)) $$ [Hb Hx Hy]
  · isplitl [Hb]; · iexact Hb
    rw [hold, hWx, hWy]
    isplitl [Hx] <;> iassumption
  iintro ⟨Hb, Hheld⟩
  ihave Hh := (Entails.of_eq (hold (op.result W))) $$ Hheld
  rw [hx, hy, hWx]
  icases Hh with ⟨Hx, Hy⟩
  rw [wp_ret]; imodintro
  iapply Hk
  isplitl [Hb]; · iexact Hb
  isplitl [Hx] <;> iassumption

theorem unary_step (d : Dev nD) (x y : Ref sig .tc) (f : x.ty.Contents (Elt F) → y.ty.Contents (Elt F)) (hx hy) (hxy : x ≠ y) (W₀ : Valuation τ sig (Elt F))
    (fx : Buf (Elt F) ((SparseCore.T d : Thread nD τ).loc x)) (fy : Buf (Elt F) ((SparseCore.T d : Thread nD τ).loc y)) (Q : PUnit → sProp 𝕄) :
    iprop(boundary (SparseCore.T d) ∗ ((SparseCore.T d : Thread nD τ).loc x ↦{fullShare} fx) ∗ ((SparseCore.T d : Thread nD τ).loc y ↦{fullShare} fy)
        ∗ ((boundary (SparseCore.T d) ∗ ((SparseCore.T d : Thread nD τ).loc x ↦{fullShare} fx) ∗ ((SparseCore.T d : Thread nD τ).loc y ↦{fullShare} f fx)) -∗ Q ⟨⟩))
      ⊢ wp frame (wpE ((K (F := F)).defs (D (F := F))) 𝒱 (SparseCore.T d) none) Set.univ (hlo rfl (StableHlo.unary x y f hx hy) fun _ => .ret ⟨⟩) Q :=
  host_step d (devRef_ne_of_ne hxy) _ (Finset.Subset.refl _) f (fun W => unary_result_ne _ _ f hx hy W hxy) (fun W => unary_result _ _ f hx hy W) rfl W₀ fx fy Q

theorem reshape_step (d : Dev nD) (x y : Ref sig .tc) (he : x.ty.elt = y.ty.elt) (hn : x.ty.shape.ShapeCasts y.ty.shape) (hx hy) (hxy : x ≠ y)
    (g : x.ty.Contents (Elt F) → y.ty.Contents (Elt F)) (hg : ∀ f, g f = fun i => he ▸ shapeCast y.ty.shape f hn i) (W₀ : Valuation τ sig (Elt F))
    (fx : Buf (Elt F) ((SparseCore.T d : Thread nD τ).loc x)) (fy : Buf (Elt F) ((SparseCore.T d : Thread nD τ).loc y)) (Q : PUnit → sProp 𝕄) :
    iprop(boundary (SparseCore.T d) ∗ ((SparseCore.T d : Thread nD τ).loc x ↦{fullShare} fx) ∗ ((SparseCore.T d : Thread nD τ).loc y ↦{fullShare} fy)
        ∗ ((boundary (SparseCore.T d) ∗ ((SparseCore.T d : Thread nD τ).loc x ↦{fullShare} fx) ∗ ((SparseCore.T d : Thread nD τ).loc y ↦{fullShare} g fx)) -∗ Q ⟨⟩))
      ⊢ wp frame (wpE ((K (F := F)).defs (D (F := F))) 𝒱 (SparseCore.T d) none) Set.univ (hlo rfl (StableHlo.reshape x y he hn hx hy) fun _ => .ret ⟨⟩) Q :=
  host_step d (devRef_ne_of_ne hxy) _ (Finset.Subset.refl _) g (fun W => reshape_result_ne _ _ he hn hx hy W hxy)
    (fun W => (reshape_result _ _ he hn hx hy W).trans (hg _).symm) rfl W₀ fx fy Q

/-! ## The two calls of the TensorCore -/

section Calls

variable [∀ e, Nonempty (Elt F e)]

/-- A call of the TensorCore in @main: its arrays before, its arrays after, nothing else touched. -/
theorem call_step (p : Fin 2) {dats : Dats F} {V Vp : Vals F}
    (R : Pipeline.RegionSeg (pcfgs (F := F)) adm dats none defs₀ 𝒱₀ (K (F := F)).L (K (F := F)).lev p)
    (hpre : ∀ c, R.pre c = iprop(arrs p c V ∗ settled c)) (hpost : ∀ c, R.post c = iprop(arrs p c Vp ∗ settled c)) (d : Dev nD) (Q : PUnit → sProp 𝕄) :
    iprop(boundary (SparseCore.T d) ∗ arrs p d V ∗ settled d ∗ levAts (K (F := F)).L (K (F := F)).lev
        ∗ Pipeline.cellsGhost (Pipeline.pin (pcfgs (F := F)) adm) EP p d ∗ Pipeline.toksInit (Pipeline.pin (pcfgs (F := F)) adm) EP p d
        ∗ ((boundary (SparseCore.T d) ∗ arrs p d Vp ∗ settled d) -∗ Q ⟨⟩))
      ⊢ wp frame (wpE ((K (F := F)).defs (D (F := F))) 𝒱 (SparseCore.T d) none) Set.univ
          (Prog.lift (.customCall (SparseCore.inner (Pipeline.entry p)) ())) Q := by
  have hw := Pipeline.RegionSeg.wp (pcfgs (F := F)) adm dats none cellOf_inj EP defs₀ 𝒱₀ (K (F := F)).L (K (F := F)).lev R d none (by simp) (fun _ => .ret ⟨⟩) Q
  rw [hpre, hpost] at hw
  have hl := (K (F := F)).wp_liftProg (D (F := F)) 𝒱 (SparseCore.T d) Set.univ none (Prog.lift (.customCall (Pipeline.entry p) ())) Q
  show _ ⊢ wp frame (wpE ((K (F := F)).defs (D (F := F))) 𝒱 (SparseCore.T d) none) Set.univ
    (SparseCore.liftProg (Prog.lift (.customCall (Pipeline.entry p) ()))) Q
  iintro ⟨Hb, Ha, Hs, Hl, Hc, Ht, Hk⟩
  iapply hl
  iapply hw
  isplitl [Hk]
  · iintro ⟨Hb, Ha, Hs⟩
    rw [wp_ret]; imodintro
    iapply Hk
    isplitl [Hb]; · iexact Hb
    isplitl [Ha] <;> iassumption
  isplitl [Hb]; · iexact Hb
  isplitl [Ha Hs]; · isplitl [Ha] <;> iassumption
  isplitl [Hl]; · iexact Hl
  isplitl [Hc] <;> iassumption

end Calls

/-! ## The contents along @main -/

variable (m : (ℓ : Loc nD τ sig) → Buf (Elt F) ℓ) (ρ : Dev nD → PrngReg)

/-- A buffer of the TensorCore's. -/
abbrev lc (d : Dev nD) (b : Ref sig .tc) : Loc nD τ sig := (SparseCore.T d : Thread nD τ).loc b

/-- The mask of the last four batches, and it as floats. -/
def maskTail (d : Dev nD) : Buf (Elt F) (lc d main_v0) := extractStridedSlice S4x1x512x512 ![12, 0, 0, 0] (m (lc d main_arg2)) slices_S16x1x512x512_S4x1x512x512_12_0_0_0
def maskFloat (d : Dev nD) : Buf (Elt F) (lc d main_v1) := uitofp .f32 (maskTail m d)
/-- The mask of the last four batches, the predictions and the targets as rows of 512. -/
def maskRows (d : Dev nD) : Buf (Elt F) (mLoc d) := shapeCast S2048x512 (maskFloat m d) shapeCasts_S4x1x512x512_S2048x512
def predRows (d : Dev nD) : Buf (Elt F) (pLoc d) := shapeCast S24576x512 (m (lc d main_arg0)) shapeCasts_S16x3x512x512_S24576x512
def targRows (d : Dev nD) : Buf (Elt F) (tLoc d) := shapeCast S24576x512 (m (lc d main_arg1)) shapeCasts_S16x3x512x512_S24576x512
/-- The mask as bytes. -/
def maskBytes (d : Dev nD) : Buf (Elt F) (lc d main_v6) := extui 8 (m (lc d main_arg2)) natLt_1_8

/-- The buffers at the call that sums, and after it. -/
def V₁ : Vals F := fun d => Function.update (fun b => m (lc d b)) main_v6 (maskBytes m d)
def V₁' : Vals F := fun d => Function.update (V₁ m d) main_v7 (pair (sums (V₁ m) d 12))
/-- The partial sums of the tiles. -/
def tilesOut (d : Dev nD) : Buf (Elt F) (oLoc d) := parts (predRows m) (targRows m) (maskRows m) d
/-- The buffers at the call that combines, and after it. -/
def V₂ : Vals F := fun d => Function.update (Function.update (fun b => m (lc d b)) main_v5 (tilesOut m d)) main_v7 (pair (sums (V₁ m) d 12))
def V₂' : Vals F := fun d => Function.update (V₂ m d) main_v8 (fun _ => quot (V₂ m) d)

/-- The result. -/
def result (d : Dev nD) : F .f32 := ratio (tilesOut m d) (pair (sums (V₁ m) d 12))

theorem quot_V₂ (d : Dev nD) : quot (V₂ m) d = result m d := by
  unfold quot result V₂
  rw [Function.update_self, Function.update_of_ne (by decide), Function.update_self]

theorem arrs_sum (d : Dev nD) : (arrs 0 d (V₁ m) : sProp 𝕄)
    = iprop((lc d main_arg0 ↦{fullShare} m (lc d main_arg0)) ∗ (lc d main_arg1 ↦{fullShare} m (lc d main_arg1))
      ∗ (lc d main_v6 ↦{fullShare} maskBytes m d) ∗ lc d main_v7 ↦{fullShare} m (lc d main_v7)) := by
  unfold arrs
  rw [show (bigSep Finset.univ fun w : Fin (cfgs (0 : Fin 2)).W => _ : sProp 𝕄) = _ from bigSep_W1 _]
  rfl
theorem arrs_sum' (d : Dev nD) : (arrs 0 d (V₁' m) : sProp 𝕄)
    = iprop((lc d main_arg0 ↦{fullShare} m (lc d main_arg0)) ∗ (lc d main_arg1 ↦{fullShare} m (lc d main_arg1))
      ∗ (lc d main_v6 ↦{fullShare} maskBytes m d) ∗ lc d main_v7 ↦{fullShare} pair (sums (V₁ m) d 12)) := by
  unfold arrs
  rw [show (bigSep Finset.univ fun w : Fin (cfgs (0 : Fin 2)).W => _ : sProp 𝕄) = _ from bigSep_W1 _]
  rfl
theorem arrs_combine (d : Dev nD) : (arrs 1 d (V₂ m) : sProp 𝕄)
    = iprop((oLoc d ↦{fullShare} tilesOut m d) ∗ (lc d main_v7 ↦{fullShare} pair (sums (V₁ m) d 12)) ∗ lc d main_v8 ↦{fullShare} m (lc d main_v8)) := by
  unfold arrs
  rw [show (bigSep Finset.univ fun w : Fin (cfgs (1 : Fin 2)).W => _ : sProp 𝕄) = _ from bigSep_W2 _]
  rfl
theorem arrs_combine' (d : Dev nD) : (arrs 1 d (V₂' m) : sProp 𝕄)
    = iprop((oLoc d ↦{fullShare} tilesOut m d) ∗ (lc d main_v7 ↦{fullShare} pair (sums (V₁ m) d 12)) ∗ lc d main_v8 ↦{fullShare} fun _ => quot (V₂ m) d) := by
  unfold arrs
  rw [show (bigSep Finset.univ fun w : Fin (cfgs (1 : Fin 2)).W => _ : sProp 𝕄) = _ from bigSep_W2 _]
  rfl

omit [FloatOps F] in
theorem unscoped_eq (d : Dev nD) : (unscopedBufs d (fun b => m ((SparseCore.T d).loc b)) : sProp 𝕄)
    = iprop((lc d main_arg0 ↦{fullShare} m (lc d main_arg0)) ∗ (lc d main_arg1 ↦{fullShare} m (lc d main_arg1)) ∗ (lc d main_arg2 ↦{fullShare} m (lc d main_arg2))
      ∗ (lc d main_v0 ↦{fullShare} m (lc d main_v0)) ∗ (lc d main_v1 ↦{fullShare} m (lc d main_v1)) ∗ (lc d main_v2 ↦{fullShare} m (lc d main_v2))
      ∗ (lc d main_v3 ↦{fullShare} m (lc d main_v3)) ∗ (lc d main_v4 ↦{fullShare} m (lc d main_v4)) ∗ (lc d main_v5 ↦{fullShare} m (lc d main_v5))
      ∗ (lc d main_v6 ↦{fullShare} m (lc d main_v6)) ∗ (lc d main_v7 ↦{fullShare} m (lc d main_v7)) ∗ (lc d main_v8 ↦{fullShare} m (lc d main_v8))
      ∗ lc d main_v9 ↦{fullShare} m (lc d main_v9)) := by
  unfold unscopedBufs
  rw [show (Finset.univ.filter fun b : Ref sig .tc => ¬ b.isScoped)
    = {main_arg0, main_arg1, main_arg2, main_v0, main_v1, main_v2, main_v3, main_v4, main_v5, main_v6, main_v7, main_v8, main_v9} by decide]
  iterate 12 rw [SparseCore.bigSep_insert' (by decide)]
  rw [bigSep_singleton]

/-! ## @main -/

/-- What @main leaves: the arguments, and the result. -/
def FIN (d : Dev nD) : sProp 𝕄 :=
  iprop((lc d main_v9 ↦{fullShare} fun _ => result m d) ∗ (lc d main_arg0 ↦{fullShare} m (lc d main_arg0)) ∗ (lc d main_arg1 ↦{fullShare} m (lc d main_arg1))
    ∗ lc d main_arg2 ↦{fullShare} m (lc d main_arg2))

/-- The parts of the launch: what the call of the SparseCores takes and hands back. -/
abbrev PP := P (F := F) (predRows m) (targRows m) (maskRows m)

theorem st0 (d : Dev nD) (fo : Buf (Elt F) (oLoc d)) :
    iprop((pLoc d ↦{fullShare} predRows m d) ∗ (tLoc d ↦{fullShare} targRows m d) ∗ (mLoc d ↦{fullShare} maskRows m d) ∗ oLoc d ↦{fullShare} fo)
      ⊢ (bigSep Finset.univ fun c : Fin ((K (F := F)).nCore 0) => (PP m).st 0 d c : sProp 𝕄) :=
  deal (predRows m) (targRows m) (maskRows m) d fo
theorem dn0 (d : Dev nD) :
    (bigSep Finset.univ fun c : Fin ((K (F := F)).nCore 0) => (PP m).dn 0 d c : sProp 𝕄) ⊢ (oLoc d ↦{fullShare} tilesOut m d : sProp 𝕄) :=
  gather (predRows m) (targRows m) (maskRows m) d

variable [∀ e, Nonempty (Elt F e)]

set_option maxHeartbeats 4000000 in
theorem hmain (κ : GSem nD τ sig → ℕ) (d : Dev nD) :
    iprop((K (F := F)).ctx EH (PP m) κ (K (F := F)).lev ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hset : (K (F := F)).tcSt EH d 1 = (iprop(settled d ∗ (atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q => bigSep Finset.univ fun c : Fin ((K (F := F)).nCore q) =>
          iprop(dutyTok EH ((K (F := F)).startCell d ((K (F := F)).core q c)) ((K (F := F)).sRank ((K (F := F)).core q c) q.val) 0
            ∗ cred (tallyAt ((K (F := F)).doneCell d) (some (SparseCore.Cfg.Blocks.last q)) 1)))) : sProp 𝕄) := by
    unfold SparseCore.Cfg.tcSt settled
    rw [(K (F := F)).Otc_end d (le_refl 1)]
    rfl
  unfold SparseCore.Cfg.tcRes SparseCore.Cfg.tcEnd
  rw [unscoped_eq, ghost_eq, hset]
  simp only [main, wp_bind, wp_pure]
  iintro ⟨#Hctx, Hst, ⟨Hb, ⟨H0, H1, H2, Hv0, Hv1, Hv2, Hv3, Hv4, Hv5, Hv6, Hv7, Hv8, Hv9⟩, Hts, -⟩, ⟨⟨Hc0, Hc1⟩, Ht0, Ht1⟩⟩
  iapply (unary_step d main_arg2 main_v0 _ _ _ (by decide) (fun b => m (d, b)) _ _ _)
  isplitl [Hb]; · iexact Hb
  isplitl [H2]; · iexact H2
  isplitl [Hv0]; · iexact Hv0
  iintro ⟨Hb, H2, Hv0⟩
  iapply (unary_step d main_v0 main_v1 _ _ _ (by decide) (fun b => m (d, b)) _ _ _)
  isplitl [Hb]; · iexact Hb
  isplitl [Hv0]; · iexact Hv0
  isplitl [Hv1]; · iexact Hv1
  iintro ⟨Hb, -, Hv1⟩
  iapply (reshape_step d main_v1 main_v2 _ _ _ _ (by decide) (fun f => shapeCast S2048x512 f shapeCasts_S4x1x512x512_S2048x512) (fun _ => rfl) (fun b => m (d, b)) _ _ _)
  isplitl [Hb]; · iexact Hb
  isplitl [Hv1]; · iexact Hv1
  isplitl [Hv2]; · iexact Hv2
  iintro ⟨Hb, -, Hv2⟩
  iapply (reshape_step d main_arg0 main_v3 _ _ _ _ (by decide) (fun f => shapeCast S24576x512 f shapeCasts_S16x3x512x512_S24576x512) (fun _ => rfl) (fun b => m (d, b)) _ _ _)
  isplitl [Hb]; · iexact Hb
  isplitl [H0]; · iexact H0
  isplitl [Hv3]; · iexact Hv3
  iintro ⟨Hb, H0, Hv3⟩
  iapply (reshape_step d main_arg1 main_v4 _ _ _ _ (by decide) (fun f => shapeCast S24576x512 f shapeCasts_S16x3x512x512_S24576x512) (fun _ => rfl) (fun b => m (d, b)) _ _ _)
  isplitl [Hb]; · iexact Hb
  isplitl [H1]; · iexact H1
  isplitl [Hv4]; · iexact Hv4
  iintro ⟨Hb, H1, Hv4⟩
  iapply ((K (F := F)).wp_run (D (F := F)) 𝒱 (EH := EH) (P := PP m) κ d 0)
  isplitr; · iexact Hctx
  isplitl [Hst]; · iexact Hst
  isplitl [Hv2 Hv3 Hv4 Hv5]
  · iapply (st0 m d _)
    isplitl [Hv3]; · iexact Hv3
    isplitl [Hv4]; · iexact Hv4
    isplitl [Hv2]; · iexact Hv2
    iexact Hv5
  iintro ⟨Hst, Hdn⟩
  ihave Hv5 := (dn0 m d) $$ Hdn
  ihave Hst := (Entails.of_eq (show (K (F := F)).tcSt EH d ((0 : Fin 1).val + 1) = _ from hset)) $$ Hst
  icases Hst with ⟨Hs, Hst⟩
  iapply (unary_step d main_arg2 main_v6 _ _ _ (by decide) (fun b => m (d, b)) _ _ _)
  isplitl [Hb]; · iexact Hb
  isplitl [H2]; · iexact H2
  isplitl [Hv6]; · iexact Hv6
  iintro ⟨Hb, H2, Hv6⟩
  ihave Hl := ((K (F := F)).ctx_levAts κ) $$ Hctx
  icases Hl with #Hl
  iapply (call_step 0 (sumReg (V₁ m) (V₁' m) (fun c => Function.update_self _ _ _) (fun c b hb => Function.update_of_ne hb _ _)) (fun _ => rfl) (fun _ => rfl) d _)
  isplitl [Hb]; · iexact Hb
  isplitl [H0 H1 Hv6 Hv7]
  · rw [arrs_sum]
    isplitl [H0]; · iexact H0
    isplitl [H1]; · iexact H1
    isplitl [Hv6]; · iexact Hv6
    iexact Hv7
  isplitl [Hs]; · iexact Hs
  isplitr; · iexact Hl
  isplitl [Hc0]; · iexact Hc0
  isplitl [Ht0]; · iexact Ht0
  iintro ⟨Hb, Ha, Hs⟩
  ihave Ha := (Entails.of_eq (arrs_sum' m d)) $$ Ha
  icases Ha with ⟨H0, H1, -, Hv7⟩
  iapply (call_step 1 (combineReg (V₂ m) (V₂' m) (fun c => Function.update_self _ _ _) (fun c b hb => Function.update_of_ne hb _ _)) (fun _ => rfl) (fun _ => rfl) d _)
  isplitl [Hb]; · iexact Hb
  isplitl [Hv5 Hv7 Hv8]
  · rw [arrs_combine]
    isplitl [Hv5]; · iexact Hv5
    isplitl [Hv7] <;> iassumption
  isplitl [Hs]; · iexact Hs
  isplitr; · iexact Hl
  isplitl [Hc1]; · iexact Hc1
  isplitl [Ht1]; · iexact Ht1
  iintro ⟨Hb, Ha, Hs⟩
  ihave Ha := (Entails.of_eq (arrs_combine' m d)) $$ Ha
  icases Ha with ⟨-, -, Hv8⟩
  rw [quot_V₂]
  iapply (reshape_step d main_v8 main_v9 _ _ _ _ (by decide) (fun f => shapeCast S_ f shapeCasts_S1_S_) (fun _ => rfl) (fun b => m (d, b)) _ _ _)
  isplitl [Hb]; · iexact Hb
  isplitl [Hv8]; · iexact Hv8
  isplitl [Hv9]; · iexact Hv9
  iintro ⟨Hb, -, Hv9⟩
  imodintro
  isplitl [Hs Hst]
  · isplitl [Hs] <;> iassumption
  isplitl [Hv9 H0 H1 H2]
  · unfold FIN
    isplitl [Hv9]; · iexact Hv9
    isplitl [H0]; · iexact H0
    isplitl [H1] <;> iassumption
  isplitl [Hb] <;> iassumption

/-! ## The program's run -/

def fq (d : Dev nD) (s' : Phys nD τ sig (Elt F)) : Prop :=
  s'.mem.mem (lc d main_v9) = (fun _ => result m d) ∧ s'.mem.mem (lc d main_arg0) = m (lc d main_arg0) ∧ s'.mem.mem (lc d main_arg1) = m (lc d main_arg1)
    ∧ s'.mem.mem (lc d main_arg2) = m (lc d main_arg2)

omit [FloatOps F] [∀ e, Nonempty (Elt F e)] in
/-- A buffer held whole is what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  iintro H
  ihave H := (persistent_entails_right h) $$ H
  icases H with ⟨Hp, -, HSI⟩
  isplitl [Hp] <;> iassumption

omit [∀ e, Nonempty (Elt F e)] in
theorem hfin (d : Dev nD) (s' : Phys nD τ sig (Elt F)) : iprop(FIN m d ∗ SI s') ⊢ (⌜fq m d s'⌝ : sProp 𝕄) := by
  unfold FIN
  iintro ⟨⟨H9, H0, H1, H2⟩, HSI⟩
  ihave H := (agree s' _ _) $$ [H9 HSI]
  · isplitl [H9] <;> iassumption
  icases H with ⟨%h9, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, -⟩
  ipureintro; exact ⟨h9, h0, h1, h2⟩

def QC : PUnit × MemSt nD τ sig (Elt F) → Prop := fun r =>
  (∀ d : Dev nD, r.2.mem (lc d main_v9) = (fun _ => result m d) ∧ r.2.mem (lc d main_arg0) = m (lc d main_arg0) ∧ r.2.mem (lc d main_arg1) = m (lc d main_arg1)
    ∧ r.2.mem (lc d main_arg2) = m (lc d main_arg2)) ∧ r.2.sem = fun _ => 0

/-- Every run ends, the counters at zero, the result the quotient, the arguments as they were. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (predRows m) (targRows m) (maskRows m))
    (fun q _ => match q with | 0 => SparseCore.Cfg.VecSplit.of_plain (vecSplit (predRows m) (targRows m) (maskRows m)))
    m ρ main (fun d => ghost d) (FIN m) (u₀ (F := F)) (sep_elim_left.trans (hu₀ (predRows m) (targRows m) (maskRows m))) (hmain m ρ) (fq m) (hfin m) (QC m) (fun _ h hz => ⟨h, hz⟩)

end Cert.Proof

end
-- ==== Proof.Same.lean ====
/-
  The kernel as printed and the kernel read at the exact values are one program: their texts agree.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxHeartbeats 4000000 in
theorem bodies_same : @Cert.Kernel.defs₀ F _ _ = @Cert.KernelIdeal.defs₀ F _ _ := by
  funext p ℓ a
  rcases p with _ | _ | _ <;> fin_cases ℓ <;> rfl

set_option maxHeartbeats 4000000 in
theorem defs_same : @Cert.Kernel.defs F _ _ = @Cert.KernelIdeal.defs F _ _ :=
  congrArg (fun D => Cert.KernelIdeal.sc.defs (Pipeline.defs Cert.KernelIdeal.pcfgs D)) bodies_same

set_option maxHeartbeats 4000000 in
theorem main_same : @Cert.Kernel.main F _ _ = @Cert.KernelIdeal.main F _ _ := rfl

set_option maxHeartbeats 4000000 in
theorem threads_same : @Cert.Kernel.threads F _ _ = @Cert.KernelIdeal.threads F _ _ :=
  congrArg (fun D => Cert.KernelIdeal.sc.threads D) main_same

set_option maxHeartbeats 4000000 in
/-- A run of the one is a run of the other. -/
theorem run_same (s : _) (Q : _) (h : θ_run (Cert.KernelIdeal.defs (F := F)) Cert.KernelIdeal.threads s Q) :
    θ_run (Cert.Kernel.defs (F := F)) Cert.Kernel.threads s Q :=
  (congrArg₂ (fun D T => θ_run D T s Q) defs_same threads_same).mpr h

end Cert.Proof

end
-- ==== Proof.Pixels.lean ====
/-
  The exact values: what each pixel adds to the loss and to the count, and sums over pixels taken in another order.
-/
module

public import proofs.«01_k».proof.Proof.Base
public import Idealize.ShloMosaic.Lib.IdealHost
public import Idealize.ShloMosaic.Lib.Pointwise.Index
public import Idealize.ShloMosaic.Lib.Pipeline.Value
public import Idealize.ShloMosaic.Lib.Pipeline.ValueKit.Acc

@[expose] public section

noncomputable section

namespace Cert.Proof

open Cert.KernelIdeal Cert.KernelIdeal.Gen
open Idealize.ShloMosaic
open Finset (range)

/-! ## The literals -/

theorem one_f32 : (Scalar.ofBits .f32 0x3F800000#32 : Ideal .f32) = (1 : EReal) := Ideal.ofBits_one_f32
theorem three_f32 : (Scalar.ofBits .f32 0x40400000#32 : Ideal .f32) = ((3 : ℕ) : EReal) := by
  show Ideal.ofBits .f32 0x40400000#32 = _
  rw [show ((3 : ℕ) : EReal) = ((3 : ℝ) : EReal) by norm_cast]
  simp [Ideal.ofBits, Ideal.ieee, -EReal.coe_mul]; norm_num
theorem zero_f32 : (Scalar.ofBits .f32 0x00000000#32 : Ideal .f32) = (0 : EReal) := by
  show Ideal.ofBits .f32 0x00000000#32 = _
  simp [Ideal.ofBits, Ideal.ieee]

/-! ## A pixel -/

abbrev Img : Type := S16x3x512x512.Idx → EReal
abbrev Msk : Type := S16x1x512x512.Idx → BitVec 1

/-- A pixel of an array, by numbers taken modulo the array's sizes. -/
def rd (X : Img) (b c r j : ℕ) : EReal := X (ix4 (Fin.ofNat 16 b) (Fin.ofNat 3 c) (Fin.ofNat 512 r) (Fin.ofNat 512 j))
/-- A pixel of the mask. -/
def bit (M : Msk) (b r j : ℕ) : BitVec 1 := M (ix4 (Fin.ofNat 16 b) (0 : Fin 1) (Fin.ofNat 512 r) (Fin.ofNat 512 j))

/-- One where the mask is not set, else zero, -/
def kpn (M : Msk) (b r j : ℕ) : ℕ := 1 - (bit M b r j).toNat
/-- also as an extended real. -/
def kp (M : Msk) (b r j : ℕ) : EReal := (kpn M b r j : EReal)
/-- The squared difference. -/
def sq (P T : Img) (b c r j : ℕ) : EReal := (rd T b c r j - rd P b c r j) * (rd T b c r j - rd P b c r j)
/-- What a pixel adds to the loss, its three channels together. -/
def pix (P T : Img) (M : Msk) (b r j : ℕ) : EReal := ∑ c ∈ range 3, sq P T b c r j * kp M b r j

theorem bit_cases (w : BitVec 1) : w = 0#1 ∨ w = 1#1 := by revert w; decide

theorem kpn_cases (M : Msk) (b r j : ℕ) : kpn M b r j = 0 ∨ kpn M b r j = 1 := by unfold kpn; omega

/-- One minus a mask's bit, read as a number. -/
theorem one_sub_bit (w : BitVec 1) : (1 : EReal) - ((w.toNat : ℝ) : EReal) = ((1 - w.toNat : ℕ) : EReal) := by
  rcases bit_cases w with rfl | rfl
  · simp
  · show (1 : EReal) - (((1 : ℕ) : ℝ) : EReal) = ((0 : ℕ) : EReal)
    rw [show (1 : EReal) = ((1 : ℝ) : EReal) from rfl, ← EReal.coe_sub]; simp

/-- The kept factor, over the three channels. -/
theorem keep_three (x y z : EReal) (n : ℕ) (hn : n = 0 ∨ n = 1) : (x + y + z) * (n : EReal) = x * n + y * n + z * n := by
  rcases hn with rfl | rfl <;> simp

theorem pix_eq (P T : Img) (M : Msk) (b r j : ℕ) :
    (sq P T b 0 r j + sq P T b 1 r j + sq P T b 2 r j) * kp M b r j = pix P T M b r j := by
  unfold pix kp
  rw [keep_three _ _ _ _ (kpn_cases M b r j), Finset.sum_range_succ, Finset.sum_range_succ, Finset.sum_range_succ, Finset.sum_range_zero, zero_add]

/-! ## Sums over the pixels of the last four batches, as the tiles take them -/

variable {N : Type*} [AddCommMonoid N]

/-- The pixels of block `v`, in its 64 trips of eight groups of sixteen lanes. -/
theorem block_sum (h : ℕ → ℕ → N) :
    ∑ k ∈ range 64, ∑ u ∈ range 8, ∑ l ∈ range 16, h (k / 4) (k % 4 * 128 + (u * 16 + l)) = ∑ a ∈ range 16, ∑ j ∈ range 512, h a j := by
  refine Eq.trans ?_ (Finset.sum_points_lanes 16 4 128 h)
  exact Finset.sum_congr rfl fun k _ => Finset.sum_range_range_mul_add 8 16 fun j => h (k / 4) (k % 4 * 128 + j)

/-- What the tiles sum is the sum over the last four batches. -/
theorem tail_sum (g : ℕ → ℕ → ℕ → N) :
    ∑ x ∈ range 512, ∑ b ∈ range 4, ∑ k ∈ range 64, ∑ u ∈ range 8,
        g (12 + (x / 16 * 4 + b) / 32) ((x / 16 * 4 + b) % 32 * 16 + k / 4) (k % 4 * 128 + (u * 16 + x % 16))
      = ∑ b ∈ range 4, ∑ r ∈ range 512, ∑ j ∈ range 512, g (12 + b) r j := by
  rw [Finset.sum_range_mul_divmod 32 16 fun w l => ∑ b ∈ range 4, ∑ k ∈ range 64, ∑ u ∈ range 8,
    g (12 + (w * 4 + b) / 32) ((w * 4 + b) % 32 * 16 + k / 4) (k % 4 * 128 + (u * 16 + l))]
  have hblk : ∀ w ∈ range 32, (∑ l ∈ range 16, ∑ b ∈ range 4, ∑ k ∈ range 64, ∑ u ∈ range 8,
      g (12 + (w * 4 + b) / 32) ((w * 4 + b) % 32 * 16 + k / 4) (k % 4 * 128 + (u * 16 + l)))
      = ∑ b ∈ range 4, ∑ a ∈ range 16, ∑ j ∈ range 512, g (12 + (w * 4 + b) / 32) ((w * 4 + b) % 32 * 16 + a) j := by
    intro w _
    rw [Finset.sum_comm]
    refine Finset.sum_congr rfl fun b _ => ?_
    rw [← block_sum fun a j => g (12 + (w * 4 + b) / 32) ((w * 4 + b) % 32 * 16 + a) j, Finset.sum_comm]
    exact Finset.sum_congr rfl fun k _ => Finset.sum_comm
  rw [Finset.sum_congr rfl hblk,
    Finset.sum_range_range_mul_add 32 4 fun v => ∑ a ∈ range 16, ∑ j ∈ range 512, g (12 + v / 32) (v % 32 * 16 + a) j]
  exact Finset.sum_points_lanes 4 32 16 fun b r => ∑ j ∈ range 512, g (12 + b) r j

/-- All sixteen batches. -/
theorem batches (g : ℕ → N) : ∑ b ∈ range 4, g (12 + b) + ∑ b ∈ range 12, g b = ∑ b ∈ range 16, g b := by
  rw [show (16 : ℕ) = 12 + 4 from rfl, Finset.sum_range_add, add_comm]

/-! ## Reading casts -/

theorem rd_rows (X : Img) (h : S16x3x512x512.ShapeCasts S24576x512) (x : S24576x512.Idx) :
    shapeCast S24576x512 X h x = rd X ((x 0 : ℕ) / 1536) ((x 0 : ℕ) / 512 % 3) ((x 0 : ℕ) % 512) (x 1 : ℕ) := by
  refine shapeCast_apply X h x _ ?_
  have h0 : (x 0 : ℕ) < 24576 := (x 0).isLt
  have h1 : (x 1 : ℕ) < 512 := (x 1).isLt
  rw [Shape.rowMajor_val_four, Shape.rowMajor_val_two]
  show (((x 0 : ℕ) / 1536 % 16 * 3 + (x 0 : ℕ) / 512 % 3 % 3) * 512 + (x 0 : ℕ) % 512 % 512) * 512 + (x 1 : ℕ) % 512 = (x 0 : ℕ) * 512 + (x 1 : ℕ)
  omega

end Cert.Proof

end
-- ==== Proof.TileValue.lean ====
/-
  The exact value of a tile's two partial sums: the sums over the pixels of its four blocks.
-/
module

public import proofs.«01_k».proof.Proof.Body
public import proofs.«01_k».proof.Proof.Tiles
public import proofs.«01_k».proof.Proof.Pixels

@[expose] public section

noncomputable section

namespace Cert.Proof

open Cert.KernelIdeal Cert.KernelIdeal.Gen
open Idealize.ShloMosaic
open Finset (range)

/-! ## The windows' places -/

theorem off1_row : ∀ (c : Fin 2) (s : Fin 16) (b : Fin 4), k0_off1 (at0 c s) (BitVec.ofNat 32 b.val) 0 = 16 * ((2 * s.val + c.val) * 4 + b.val)
    ∧ k0_off1 (at0 c s) (BitVec.ofNat 32 b.val) 1 = 0 := by decide +kernel
theorem off2_row : ∀ (c : Fin 2) (s : Fin 16) (b : Fin 4) (ch : Fin 3), k0_off2 (at0 c s) (BitVec.ofNat 32 b.val) (BitVec.ofNat 32 ch.val) 0
      = ((12 + ((2 * s.val + c.val) * 4 + b.val) / 32) * 3 + ch.val) * 512 + ((2 * s.val + c.val) * 4 + b.val) % 32 * 16
    ∧ k0_off2 (at0 c s) (BitVec.ofNat 32 b.val) (BitVec.ofNat 32 ch.val) 1 = 0 := by decide +kernel
theorem off3_at : ∀ (k : Fin k0_t1_loop.trips) (u : Fin 8), k0_off3 k (BitVec.ofNat 32 (16 * u.val)) 0 = k.val / 4
    ∧ k0_off3 k (BitVec.ofNat 32 (16 * u.val)) 1 = k.val % 4 * 128 + u.val * 16 := by decide +kernel
theorem off4_at : ∀ (k : Fin k0_t1_loop.trips) (u : Fin 8), k0_off4 k (BitVec.ofNat 32 (16 * u.val)) 0 = k.val / 4
    ∧ k0_off4 k (BitVec.ofNat 32 (16 * u.val)) 1 = k.val % 4 * 128 + u.val * 16 := by decide +kernel
theorem off5_at : ∀ (k : Fin k0_t1_loop.trips) (u : Fin 8) (r : Fin 2), k0_off5 k (BitVec.ofNat 32 (16 + 16 * r.val)) (BitVec.ofNat 32 (16 * u.val)) 0 = 16 + 16 * r.val + k.val / 4
    ∧ k0_off5 k (BitVec.ofNat 32 (16 + 16 * r.val)) (BitVec.ofNat 32 (16 * u.val)) 1 = k.val % 4 * 128 + u.val * 16 := by decide +kernel
theorem trips_64 : k0_t1_loop.trips = 64 := by decide +kernel

/-- A window of one row, read as lanes. -/
theorem lanes_apply {a : ℕ} (X : (⟨2, ![a, 512]⟩ : Shape).Idx → EReal) (off : Fin 2 → ℕ) (inb : ∀ t, off t + S1x16.size t ≤ (⟨2, ![a, 512]⟩ : Shape).size t)
    (x : S16.Idx) (y : (⟨2, ![a, 512]⟩ : Shape).Idx) (h0 : (y 0 : ℕ) = off 0) (h1 : (y 1 : ℕ) = off 1 + (x 0 : ℕ)) :
    lanes (F := Ideal) X (Rect.unit (s := ⟨2, ![a, 512]⟩) off S1x16.size inb) shapeCasts_S1x16_S16 x = X y := by
  unfold lanes
  let z : S1x16.Idx := Idealize.ShloMosaic.ix2 (0 : Fin 1) (x 0)
  refine (shapeCast_apply _ shapeCasts_S1x16_S16 x z ?_).trans (congrArg X ?_)
  · rw [Shape.rowMajor_val_two, Shape.rowMajor_val_one]
    show 0 * 16 + (x 0 : ℕ) = (x 0 : ℕ)
    omega
  · funext t
    apply Fin.ext
    match t with
    | ⟨0, _⟩ => exact (show off 0 + 1 * 0 = (y 0 : ℕ) by omega)
    | ⟨1, _⟩ => exact (show off 1 + 1 * (x 0 : ℕ) = (y 1 : ℕ) by omega)

/-! ## A tile's groups -/

section Tile

variable (P T : Img) (M : Msk) (MM : S2048x512.Idx → EReal)
  (hM : ∀ x, MM x = (((bit M (12 + (x 0 : ℕ) / 512) ((x 0 : ℕ) % 512) (x 1 : ℕ)).toNat : ℝ) : EReal))
  (c : Fin 2) (s : Fin 16)

/-- Block `b`'s number among the blocks of the last four batches. -/
abbrev blkNo (b : Fin 4) : ℕ := (2 * s.val + c.val) * 4 + b.val

include hM in
theorem blkM_apply (b : Fin 4) (x : S16x512.Idx) :
    blkM (F := Ideal) MM (at0 c s) b x = (((bit M (12 + blkNo c s b / 32) (blkNo c s b % 32 * 16 + (x 0 : ℕ)) (x 1 : ℕ)).toNat : ℝ) : EReal) := by
  have h0 : (x 0 : ℕ) < 16 := (x 0).isLt
  have hb : blkNo c s b = (2 * s.val + c.val) * 4 + b.val := rfl
  obtain ⟨e0, e1⟩ := off1_row c s b
  rw [← hb] at e0
  unfold blkM
  rw [hM]
  have a0 : (((Rect.unit (s := S2048x512) (k0_off1 (at0 c s) (BitVec.ofNat 32 b.val)) S16x512.size (k0_off1_inb (at0 c s) b)).idx x) 0 : ℕ) = 16 * blkNo c s b + (x 0 : ℕ) := by
    show k0_off1 (at0 c s) (BitVec.ofNat 32 b.val) 0 + 1 * (x 0 : ℕ) = _; omega
  have a1 : (((Rect.unit (s := S2048x512) (k0_off1 (at0 c s) (BitVec.ofNat 32 b.val)) S16x512.size (k0_off1_inb (at0 c s) b)).idx x) 1 : ℕ) = (x 1 : ℕ) := by
    show k0_off1 (at0 c s) (BitVec.ofNat 32 b.val) 1 + 1 * (x 1 : ℕ) = _; omega
  rw [a0, a1, show (16 * blkNo c s b + (x 0 : ℕ)) / 512 = blkNo c s b / 32 by omega,
    show (16 * blkNo c s b + (x 0 : ℕ)) % 512 = blkNo c s b % 32 * 16 + (x 0 : ℕ) by omega]

theorem blkC_apply (X : Img) (b : Fin 4) (ch : Fin 3) (x : S16x512.Idx) :
    blkC (F := Ideal) (shapeCast S24576x512 X shapeCasts_S16x3x512x512_S24576x512) (at0 c s) b ch x
      = rd X (12 + blkNo c s b / 32) ch.val (blkNo c s b % 32 * 16 + (x 0 : ℕ)) (x 1 : ℕ) := by
  have h0 : (x 0 : ℕ) < 16 := (x 0).isLt
  have hc := ch.isLt
  have hb : blkNo c s b = (2 * s.val + c.val) * 4 + b.val := rfl
  obtain ⟨e0, e1⟩ := off2_row c s b ch
  rw [← hb] at e0
  unfold blkC
  rw [rd_rows]
  have a0 : (((Rect.unit (s := S24576x512) (k0_off2 (at0 c s) (BitVec.ofNat 32 b.val) (BitVec.ofNat 32 ch.val)) S16x512.size (k0_off2_inb (at0 c s) b ch)).idx x) 0 : ℕ)
      = ((12 + blkNo c s b / 32) * 3 + ch.val) * 512 + (blkNo c s b % 32 * 16 + (x 0 : ℕ)) := by
    show k0_off2 (at0 c s) (BitVec.ofNat 32 b.val) (BitVec.ofNat 32 ch.val) 0 + 1 * (x 0 : ℕ) = _; omega
  have a1 : (((Rect.unit (s := S24576x512) (k0_off2 (at0 c s) (BitVec.ofNat 32 b.val) (BitVec.ofNat 32 ch.val)) S16x512.size (k0_off2_inb (at0 c s) b ch)).idx x) 1 : ℕ) = (x 1 : ℕ) := by
    show k0_off2 (at0 c s) (BitVec.ofNat 32 b.val) (BitVec.ofNat 32 ch.val) 1 + 1 * (x 1 : ℕ) = _; omega
  rw [a0, a1]
  congr 1 <;> omega

theorem stack_apply (X : Img) (b : Fin 4) (y : S48x512.Idx) (ch r : ℕ) (hch : ch < 3) (hr : r < 16) (hy : (y 0 : ℕ) = 16 * ch + r) :
    stack (blkC (F := Ideal) (shapeCast S24576x512 X shapeCasts_S16x3x512x512_S24576x512) (at0 c s) b) y
      = rd X (12 + blkNo c s b / 32) ch (blkNo c s b % 32 * 16 + r) (y 1 : ℕ) := by
  unfold stack
  rw [blkC_apply]
  show rd X _ ((y 0 : ℕ) / 16) (_ + (y 0 : ℕ) % 16) (y 1 : ℕ) = _
  rw [hy]
  congr 1 <;> omega

/-- The row and column of lane `x` of group `u` of trip `k` of block `b`. -/
abbrev pRow (b : Fin 4) (k : ℕ) : ℕ := blkNo c s b % 32 * 16 + k / 4
abbrev pCol (k u : ℕ) (x : S16.Idx) : ℕ := k % 4 * 128 + (u * 16 + (x 0 : ℕ))
abbrev pBatch (b : Fin 4) : ℕ := 12 + blkNo c s b / 32

abbrev bM (b : Fin 4) : S16x512.Idx → EReal := blkM (F := Ideal) MM (at0 c s) b
abbrev bX (X : Img) (b : Fin 4) : S48x512.Idx → EReal :=
  stack (blkC (F := Ideal) (shapeCast S24576x512 X shapeCasts_S16x3x512x512_S24576x512) (at0 c s) b)

include hM in
theorem keepG_apply (b : Fin 4) (k : Fin k0_t1_loop.trips) (u : Fin 8) (x : S16.Idx) :
    keepG (F := Ideal) (bM MM c s b) k u x = kp M (pBatch c s b) (pRow c s b k.val) (pCol k.val u.val x) := by
  have hx : (x 0 : ℕ) < 16 := (x 0).isLt
  have hk : k.val < 64 := k.isLt.trans_eq trips_64
  have hu := u.isLt
  obtain ⟨e0, e1⟩ := off3_at k u
  let y : S16x512.Idx := Idealize.ShloMosaic.ix2 (⟨k.val / 4, by omega⟩ : Fin 16) (⟨pCol k.val u.val x, by unfold pCol; omega⟩ : Fin 512)
  have hl := lanes_apply (a := 16) (bM MM c s b) (k0_off3 k (BitVec.ofNat 32 (16 * u.val))) (k0_off3_inb k u) x y
    (show k.val / 4 = _ by omega) (show pCol k.val u.val x = _ by unfold pCol; omega)
  show (Scalar.ofBits .f32 0x3F800000#32 : Ideal .f32) - lanes (F := Ideal) (bM MM c s b) _ _ x = _
  refine (congrArg₂ (fun a b : EReal => a - b) one_f32 (hl.trans (blkM_apply M MM hM c s b y))).trans ?_
  exact one_sub_bit _

theorem diffG0_apply (b : Fin 4) (k : Fin k0_t1_loop.trips) (u : Fin 8) (x : S16.Idx) :
    diffG0 (F := Ideal) (bX c s P b) (bX c s T b) k u x
      = rd T (pBatch c s b) 0 (pRow c s b k.val) (pCol k.val u.val x) - rd P (pBatch c s b) 0 (pRow c s b k.val) (pCol k.val u.val x) := by
  have hx : (x 0 : ℕ) < 16 := (x 0).isLt
  have hk : k.val < 64 := k.isLt.trans_eq trips_64
  have hu := u.isLt
  obtain ⟨e0, e1⟩ := off4_at k u
  let y : S48x512.Idx := Idealize.ShloMosaic.ix2 (⟨k.val / 4, by omega⟩ : Fin 48) (⟨pCol k.val u.val x, by unfold pCol; omega⟩ : Fin 512)
  have hl (X : Img) := (lanes_apply (a := 48) (bX c s X b) (k0_off4 k (BitVec.ofNat 32 (16 * u.val))) (k0_off4_inb k u) x y
    (show k.val / 4 = _ by omega) (show pCol k.val u.val x = _ by unfold pCol; omega)).trans
    (stack_apply c s X b y 0 (k.val / 4) (by omega) (by omega) (show k.val / 4 = _ by omega))
  exact congrArg₂ (fun a b : EReal => a - b) (hl T) (hl P)

theorem diffG_apply (b : Fin 4) (k : Fin k0_t1_loop.trips) (u : Fin 8) (r : Fin 2) (x : S16.Idx) :
    diffG (F := Ideal) (bX c s P b) (bX c s T b) k u r x
      = rd T (pBatch c s b) (1 + r.val) (pRow c s b k.val) (pCol k.val u.val x) - rd P (pBatch c s b) (1 + r.val) (pRow c s b k.val) (pCol k.val u.val x) := by
  have hx : (x 0 : ℕ) < 16 := (x 0).isLt
  have hk : k.val < 64 := k.isLt.trans_eq trips_64
  have hu := u.isLt
  have hr := r.isLt
  obtain ⟨e0, e1⟩ := off5_at k u r
  let y : S48x512.Idx := Idealize.ShloMosaic.ix2 (⟨16 + 16 * r.val + k.val / 4, by omega⟩ : Fin 48) (⟨pCol k.val u.val x, by unfold pCol; omega⟩ : Fin 512)
  have hl (X : Img) := (lanes_apply (a := 48) (bX c s X b) (k0_off5 k (BitVec.ofNat 32 (16 + 16 * r.val)) (BitVec.ofNat 32 (16 * u.val))) (k0_off5_inb k r u) x y
    (show 16 + 16 * r.val + k.val / 4 = _ by omega) (show pCol k.val u.val x = _ by unfold pCol; omega)).trans
    (stack_apply c s X b y (1 + r.val) (k.val / 4) (by omega) (by omega) (show 16 + 16 * r.val + k.val / 4 = _ by omega))
  exact congrArg₂ (fun a b : EReal => a - b) (hl T) (hl P)

include hM in
theorem termG_apply (b : Fin 4) (k : Fin k0_t1_loop.trips) (u : Fin 8) (x : S16.Idx) :
    termG (F := Ideal) (bM MM c s b) (bX c s P b) (bX c s T b) k u x = pix P T M (pBatch c s b) (pRow c s b k.val) (pCol k.val u.val x) := by
  rw [← pix_eq]
  unfold sq
  rw [← keepG_apply M MM hM c s b k u x, ← diffG0_apply P T c s b k u x, show rd T _ 1 _ _ - rd P _ 1 _ _ = _ from (diffG_apply P T c s b k u 0 x).symm,
    show rd T _ 2 _ _ - rd P _ 2 _ _ = _ from (diffG_apply P T c s b k u 1 x).symm]
  rfl

/-! ## A tile's sums -/

theorem eight (f : ℕ → EReal) (x y : EReal) :
    x + f 0 + f 2 + f 4 + f 6 + (y + f 1 + f 3 + f 5 + f 7) = x + y + ∑ u ∈ range 8, f u := by
  simp only [Finset.sum_range_succ, Finset.sum_range_zero, zero_add]
  ac_rfl

include hM in
theorem trips_apply (b : Fin 4) (z : Car Ideal) (x : S16.Idx) : ∀ n, n ≤ 64 →
    ((trips (bM MM c s b) (bX c s P b) (bX c s T b) z n).1 x + (trips (bM MM c s b) (bX c s P b) (bX c s T b) z n).2.1 x : EReal)
        = (z.1 x + z.2.1 x : EReal) + ∑ k ∈ range n, ∑ u ∈ range 8, pix P T M (pBatch c s b) (pRow c s b k) (pCol k u x)
    ∧ ((trips (bM MM c s b) (bX c s P b) (bX c s T b) z n).2.2.1 x + (trips (bM MM c s b) (bX c s P b) (bX c s T b) z n).2.2.2 x : EReal)
        = (z.2.2.1 x + z.2.2.2 x : EReal) + ∑ k ∈ range n, ∑ u ∈ range 8, kp M (pBatch c s b) (pRow c s b k) (pCol k u x)
  | 0, _ => by simp [trips]
  | n + 1, hn => by
    obtain ⟨i1, i2⟩ := trips_apply b z x n (by omega)
    rw [trips_succ _ _ _ z (⟨n, by rw [trips_64]; omega⟩ : Fin k0_t1_loop.trips), Finset.sum_range_succ _ n, Finset.sum_range_succ _ n, ← add_assoc, ← add_assoc, ← i1, ← i2]
    have hT (u : Fin 8) := termG_apply P T M MM hM c s b (⟨n, by rw [trips_64]; omega⟩ : Fin k0_t1_loop.trips) u x
    have hK (u : Fin 8) := keepG_apply M MM hM c s b (⟨n, by rw [trips_64]; omega⟩ : Fin k0_t1_loop.trips) u x
    constructor
    · rw [← eight fun u => pix P T M (pBatch c s b) (pRow c s b n) (pCol n u x)]
      exact congrArg₂ (fun a b : EReal => a + b) (congrArg₂ (fun a b : EReal => a + b) (congrArg₂ (fun a b : EReal => a + b) (congrArg₂ (fun a b : EReal => a + b) (congrArg₂ (fun a b : EReal => a + b) rfl (hT 0)) (hT 2)) (hT 4)) (hT 6))
        (congrArg₂ (fun a b : EReal => a + b) (congrArg₂ (fun a b : EReal => a + b) (congrArg₂ (fun a b : EReal => a + b) (congrArg₂ (fun a b : EReal => a + b) rfl (hT 1)) (hT 3)) (hT 5)) (hT 7))
    · rw [← eight fun u => kp M (pBatch c s b) (pRow c s b n) (pCol n u x)]
      exact congrArg₂ (fun a b : EReal => a + b) (congrArg₂ (fun a b : EReal => a + b) (congrArg₂ (fun a b : EReal => a + b) (congrArg₂ (fun a b : EReal => a + b) (congrArg₂ (fun a b : EReal => a + b) rfl (hK 0)) (hK 2)) (hK 4)) (hK 6))
        (congrArg₂ (fun a b : EReal => a + b) (congrArg₂ (fun a b : EReal => a + b) (congrArg₂ (fun a b : EReal => a + b) (congrArg₂ (fun a b : EReal => a + b) rfl (hK 1)) (hK 3)) (hK 5)) (hK 7))

/-- What the tile sums over its four blocks. -/
abbrev tileSum (g : ℕ → ℕ → ℕ → EReal) (w : ℕ) (x : ℕ) : EReal := ∑ b ∈ range 4, ∑ k ∈ range 64, ∑ u ∈ range 8,
  g (12 + (w * 4 + b) / 32) ((w * 4 + b) % 32 * 16 + k / 4) (k % 4 * 128 + (u * 16 + x))

abbrev rowsOf (X : Img) : S24576x512.Idx → EReal := shapeCast S24576x512 X shapeCasts_S16x3x512x512_S24576x512

attribute [local irreducible] trips pix kp

theorem four (h : ℕ → EReal) (y : EReal) (hy : y = 0) : y + h 0 + h 1 + h 2 + h 3 = ∑ b ∈ range 4, h b := by
  simp only [Finset.sum_range_succ, Finset.sum_range_zero, hy]

include hM in
theorem blkStep_apply (b : Fin 4) (z : Car Ideal) (x : S16.Idx) :
    ((blkStep (F := Ideal) MM (rowsOf P) (rowsOf T) (at0 c s) b z).1 x + (blkStep (F := Ideal) MM (rowsOf P) (rowsOf T) (at0 c s) b z).2.1 x : EReal)
        = (z.1 x + z.2.1 x : EReal) + ∑ k ∈ range 64, ∑ u ∈ range 8, pix P T M (pBatch c s b) (pRow c s b k) (pCol k u x)
    ∧ ((blkStep (F := Ideal) MM (rowsOf P) (rowsOf T) (at0 c s) b z).2.2.1 x + (blkStep (F := Ideal) MM (rowsOf P) (rowsOf T) (at0 c s) b z).2.2.2 x : EReal)
        = (z.2.2.1 x + z.2.2.2 x : EReal) + ∑ k ∈ range 64, ∑ u ∈ range 8, kp M (pBatch c s b) (pRow c s b k) (pCol k u x) := by
  have h := trips_apply P T M MM hM c s b z x _ trips_64.le
  have e : ∀ n, n = k0_t1_loop.trips → range 64 = range n := fun n hn => by rw [hn, trips_64]
  rw [e _ rfl]
  exact h

include hM in
theorem tileCar_apply (x : S16.Idx) :
    ((tileCar (F := Ideal) MM (rowsOf P) (rowsOf T) (at0 c s)).1 x + (tileCar (F := Ideal) MM (rowsOf P) (rowsOf T) (at0 c s)).2.1 x : EReal)
        = tileSum (pix P T M) (2 * s.val + c.val) (x 0)
    ∧ ((tileCar (F := Ideal) MM (rowsOf P) (rowsOf T) (at0 c s)).2.2.1 x + (tileCar (F := Ideal) MM (rowsOf P) (rowsOf T) (at0 c s)).2.2.2 x : EReal)
        = tileSum (kp M) (2 * s.val + c.val) (x 0) := by
  have hz : (k0_pay137 (F := Ideal) x : EReal) = 0 := zero_f32
  have st (b : Fin 4) (z : Car Ideal) := blkStep_apply P T M MM hM c s b z x
  have hz2 : (k0_pay137 (F := Ideal) x + k0_pay137 (F := Ideal) x : EReal) = 0 := by rw [hz, add_zero]
  refine ⟨Eq.trans ?_ (four (fun b => ∑ k ∈ range 64, ∑ u ∈ range 8,
      pix P T M (12 + ((2 * s.val + c.val) * 4 + b) / 32) (((2 * s.val + c.val) * 4 + b) % 32 * 16 + k / 4) (k % 4 * 128 + (u * 16 + (x 0 : ℕ)))) _ hz2),
    Eq.trans ?_ (four (fun b => ∑ k ∈ range 64, ∑ u ∈ range 8,
      kp M (12 + ((2 * s.val + c.val) * 4 + b) / 32) (((2 * s.val + c.val) * 4 + b) % 32 * 16 + k / 4) (k % 4 * 128 + (u * 16 + (x 0 : ℕ)))) _ hz2)⟩
  · unfold tileCar
    rw [(st 3 _).1, (st 2 _).1, (st 1 _).1, (st 0 _).1]
    rfl
  · unfold tileCar
    rw [(st 3 _).2, (st 2 _).2, (st 1 _).2, (st 0 _).2]
    rfl

include hM in
theorem tileLoss_apply (x : S16.Idx) : tileLoss (F := Ideal) MM (rowsOf P) (rowsOf T) (at0 c s) x = tileSum (pix P T M) (2 * s.val + c.val) (x 0) := by
  rw [← (tileCar_apply P T M MM hM c s x).1]
  show shapeCast S16 (addf (F := Ideal) (φ := .f32) (tileCar (F := Ideal) MM (rowsOf P) (rowsOf T) (at0 c s)).1
    (tileCar (F := Ideal) MM (rowsOf P) (rowsOf T) (at0 c s)).2.1) shapeCasts_S16_S16 x = _
  rw [shapeCast_self]
  rfl

include hM in
theorem tileCount_apply (x : S16.Idx) : tileCount (F := Ideal) MM (rowsOf P) (rowsOf T) (at0 c s) x = tileSum (kp M) (2 * s.val + c.val) (x 0) := by
  rw [← (tileCar_apply P T M MM hM c s x).2]
  show shapeCast S16 (addf (F := Ideal) (φ := .f32) (tileCar (F := Ideal) MM (rowsOf P) (rowsOf T) (at0 c s)).2.2.1
    (tileCar (F := Ideal) MM (rowsOf P) (rowsOf T) (at0 c s)).2.2.2) shapeCasts_S16_S16 x = _
  rw [shapeCast_self]
  rfl

end Tile

end Cert.Proof

end
-- ==== Proof.Value.lean ====
/-
  The exact value of the kernel's result: the sum over all pixels of the kept squares, over the number of kept places.
-/
module

public import proofs.«01_k».proof.Proof.TileValue
public import proofs.«01_k».proof.Proof.Run

@[expose] public section

noncomputable section

namespace Cert.Proof

open Cert.KernelIdeal Cert.KernelIdeal.Gen
open Idealize.ShloMosaic Idealize.ShloMosaic.TcCoe
open Finset (range)

theorem one_word (x y : S1.Idx) : x = y := by
  have hx : (x 0 : ℕ) < 1 := (x 0).isLt
  have hy : (y 0 : ℕ) < 1 := (y 0).isLt
  funext a
  match a with
  | ⟨0, _⟩ => exact Fin.ext (show (x 0 : ℕ) = (y 0 : ℕ) by omega)

/-- A reduction to one element sums all. -/
theorem reduce_all {s : Shape} {axes : List (Fin s.rank)} (v : s.Idx → EReal) (a : BitVec (FTy.f32).bits) (h : s.Reduces axes S1)
    (hφ : FKind.Formats .f32) (ha : a = FKind.neutral .add .f32 hφ) (j : S1.Idx) :
    multiReduction (F := Ideal) .add axes S1 v a h hφ ha j = ∑ i, v i := by
  show (∑ i ∈ Finset.univ.filter (fun i => h.drop i = j), v i : EReal) = _
  rw [Finset.filter_true_of_mem fun i _ => one_word _ _]

/-- The one word of an array of one element. -/
theorem word {t : Shape} (pos : Fin t.rank → ℕ) (v : S1.Idx → EReal) (u : EReal) (hv : ∀ j, v j = u) (h : S1.ShapeCasts t) (h' : ∀ a, pos a < t.size a) :
    extractAt pos (shapeCast t v h) h' = u := hv _

/-! ## The call that sums -/

section Sums

variable (P T : Img) (M : Msk)

/-- A batch's loss and count. -/
def lossB (b : ℕ) : EReal := ∑ r ∈ range 512, ∑ j ∈ range 512, pix P T M b r j
def cntB (b : ℕ) : ℕ := ∑ r ∈ range 512, ∑ j ∈ range 512, kpn M b r j

theorem cntB_cast (b : ℕ) : (∑ r ∈ range 512, ∑ j ∈ range 512, kp M b r j : EReal) = (cntB M b : EReal) := by
  unfold cntB kp
  rw [Nat.cast_sum]
  exact Finset.sum_congr rfl fun r _ => (Nat.cast_sum _ _).symm

variable (b : ℕ) (p t : S1x3x512x512.Idx → EReal) (w : S1x1x512x512.Idx → BitVec 8)
  (hp : ∀ x, p x = rd P b (x 1 : ℕ) (x 2 : ℕ) (x 3 : ℕ)) (ht : ∀ x, t x = rd T b (x 1 : ℕ) (x 2 : ℕ) (x 3 : ℕ))
  (hw : ∀ x, w x = (bit M b (x 2 : ℕ) (x 3 : ℕ)).setWidth 8)

include hw in
theorem pay1_apply (r j : Fin 512) : k1_pay1 (F := Ideal) w (Idealize.ShloMosaic.ix2 r j) = kp M b r.val j.val := by
  let y : S1x1x512x512.Idx := ix4 (0 : Fin 1) (0 : Fin 1) r j
  have e : shapeCast S512x512 w shapeCasts_S1x1x512x512_S512x512 (Idealize.ShloMosaic.ix2 r j) = w y := shapeCast_apply w _ _ y (by
    rw [Shape.rowMajor_val_four, Shape.rowMajor_val_two]
    show ((0 * 1 + 0) * 512 + r.val) * 512 + j.val = r.val * 512 + j.val
    omega)
  have hb : (w y).toNat = (bit M b r.val j.val).toNat := by
    rw [hw y]
    show ((bit M b r.val j.val).setWidth 8).toNat = _
    rw [BitVec.toNat_setWidth]
    have := (bit M b r.val j.val).isLt
    omega
  show (Scalar.ofBits .f32 0x3F800000#32 : Ideal .f32) - (((shapeCast S512x512 w shapeCasts_S1x1x512x512_S512x512 (Idealize.ShloMosaic.ix2 r j)).toNat : ℝ) : EReal) = _
  rw [e, hb]
  refine (congrArg (fun a : EReal => a - _) one_f32).trans ?_
  exact one_sub_bit _

include hw in
theorem pay1_keep (x : S1x512x512.Idx) :
    shapeCast S1x512x512 (k1_pay1 (F := Ideal) w) shapeCasts_S512x512_S1x512x512 x = kp M b (x 1 : ℕ) (x 2 : ℕ) := by
  rw [← pay1_apply M b w hw (x 1) (x 2)]
  have h0 : (x 0 : ℕ) < 1 := (x 0).isLt
  exact shapeCast_apply _ _ _ _ (by
    rw [Shape.rowMajor_val_three, Shape.rowMajor_val_two]
    show (x 1 : ℕ) * 512 + (x 2 : ℕ) = ((x 0 : ℕ) * 512 + (x 1 : ℕ)) * 512 + (x 2 : ℕ)
    omega)

/-- A block's kept places, added over its words. -/
theorem kept_rows : (∑ r : Fin 512, ∑ j : Fin 512, kp M b r.val j.val) = ((cntB M b : ℕ) : EReal) := by
  rw [← cntB_cast, ← Fin.sum_univ_eq_sum_range (fun r => ∑ j ∈ range 512, kp M b r j)]
  exact Finset.sum_congr rfl fun r _ => Fin.sum_univ_eq_sum_range (fun j => kp M b r.val j) 512

theorem kept_words : (∑ x : S1x512x512.Idx, kp M b (x 1 : ℕ) (x 2 : ℕ)) = ((cntB M b : ℕ) : EReal) := by
  rw [← kept_rows, sum_idx3 (n0 := 1) (n1 := 512) (n2 := 512), Fin.sum_univ_one]
  rfl

include hw in
theorem kept_block : (∑ x : S1x512x512.Idx, shapeCast S1x512x512 (k1_pay1 (F := Ideal) w) shapeCasts_S512x512_S1x512x512 x) = ((cntB M b : ℕ) : EReal) :=
  (Finset.sum_congr rfl fun x _ => pay1_keep M b w hw x).trans (kept_words M b)

theorem add_mul_word (z a c : Ideal .f32) : Scalar.addf z (Scalar.mulf a c) = (z + a * c : EReal) := rfl

theorem kept_term (z a : EReal) (n : ℕ) (h : a = (n : EReal)) :
    Scalar.addf (F := Ideal) (φ := .f32) z (Scalar.mulf (F := Ideal) (φ := .f32) a (Scalar.ofBits .f32 0x40400000#32)) = z + ((3 * n : ℕ) : EReal) := by
  rw [add_mul_word, h, mul_comm 3, EReal.natCast_mul, show (Scalar.ofBits .f32 0x40400000#32 : Ideal .f32) = ((3 : ℕ) : EReal) from three_f32]

include hw in
theorem pay3_apply (z : EReal) : k1_pay3 (F := Ideal) w z = z + ((3 * cntB M b : ℕ) : EReal) := by
  have hs := word ![0, 0, 0] _ _
    (fun j => reduce_all (shapeCast S1x512x512 (k1_pay1 (F := Ideal) w) shapeCasts_S512x512_S1x512x512) 0x00000000#32 reduces_S1x512x512_S1 (.inl rfl) rfl j)
    shapeCasts_S1_S1x1x1 inpos_S1x1x1_p0_0_0
  unfold k1_pay3
  dsimp only
  exact kept_term z _ _ (hs.trans (kept_block M b w hw))

include hp ht hw in
theorem pay2_apply (z : EReal) : k1_pay2 (F := Ideal) w t p z = z + lossB P T M b := by
  have hc (X : Img) (v : S1x3x512x512.Idx → EReal) (hv : ∀ x, v x = rd X b (x 1 : ℕ) (x 2 : ℕ) (x 3 : ℕ)) (c : Fin 3) (r j : Fin 512) :
      shapeCast S3x512x512 v shapeCasts_S1x3x512x512_S3x512x512 (ix3 c r j) = rd X b c.val r.val j.val := by
    refine (shapeCast_apply v _ _ (ix4 (0 : Fin 1) c r j) ?_).trans (hv _)
    rw [Shape.rowMajor_val_four, Shape.rowMajor_val_three]
    show ((0 * 3 + c.val) * 512 + r.val) * 512 + j.val = (c.val * 512 + r.val) * 512 + j.val
    omega
  have hk (c : Fin 3) (r j : Fin 512) : broadcastTo S3x512x512 (shapeCast S1x512x512 (k1_pay1 (F := Ideal) w) shapeCasts_S512x512_S1x512x512) broadcasts_S1x512x512_S3x512x512 (ix3 c r j)
      = kp M b r.val j.val :=
    (broadcastTo_apply _ broadcasts_S1x512x512_S3x512x512 (ix3 c r j) (ix3 (0 : Fin 1) r j) (fun a => match a with | ⟨0, _⟩ => rfl | ⟨1, _⟩ => rfl | ⟨2, _⟩ => rfl)).trans (pay1_keep M b w hw _)
  let v : S3x512x512.Idx → EReal := mulf (F := Ideal) (φ := .f32)
    (mulf (F := Ideal) (φ := .f32) (subf (F := Ideal) (φ := .f32) (shapeCast S3x512x512 t shapeCasts_S1x3x512x512_S3x512x512) (shapeCast S3x512x512 p shapeCasts_S1x3x512x512_S3x512x512))
      (subf (F := Ideal) (φ := .f32) (shapeCast S3x512x512 t shapeCasts_S1x3x512x512_S3x512x512) (shapeCast S3x512x512 p shapeCasts_S1x3x512x512_S3x512x512)))
    (broadcastTo S3x512x512 (shapeCast S1x512x512 (k1_pay1 (F := Ideal) w) shapeCasts_S512x512_S1x512x512) broadcasts_S1x512x512_S3x512x512)
  have hv (c : Fin 3) (r j : Fin 512) : v (ix3 c r j) = sq P T b c.val r.val j.val * kp M b r.val j.val := by
    unfold sq
    rw [← hc T t ht, ← hc P p hp, ← hk c r j]
    rfl
  have hs := word ![0, 0, 0, 0] _ _
    (fun j => reduce_all (shapeCast S1x3x512x512 v shapeCasts_S3x512x512_S1x3x512x512) 0x00000000#32 reduces_S1x3x512x512_S1 (.inl rfl) rfl j)
    shapeCasts_S1_S1x1x1x1 inpos_S1x1x1x1_p0_0_0_0
  unfold k1_pay2
  dsimp only
  refine (congrArg (fun a : Ideal .f32 => Scalar.addf z a) hs).trans ?_
  show z + _ = _
  refine congrArg (z + ·) ?_
  unfold shapeCast
  rw [Equiv.sum_comp (Shape.reshapeEquiv _) v, sum_idx3 (n0 := 3) (n1 := 512) (n2 := 512)]
  have e1 : ∀ c : Fin 3, ∑ r : Fin 512, ∑ j : Fin 512, v (ix3 c r j) = ∑ r ∈ range 512, ∑ j ∈ range 512, sq P T b c.val r j * kp M b r j := fun c => by
    rw [← Fin.sum_univ_eq_sum_range (fun r => ∑ j ∈ range 512, sq P T b c.val r j * kp M b r j)]
    refine Finset.sum_congr rfl fun r _ => ?_
    rw [← Fin.sum_univ_eq_sum_range (fun j => sq P T b c.val r.val j * kp M b r.val j)]
    exact Finset.sum_congr rfl fun j _ => hv c r j
  rw [Finset.sum_congr rfl fun c _ => e1 c, Fin.sum_univ_eq_sum_range (fun c => ∑ r ∈ range 512, ∑ j ∈ range 512, sq P T b c r j * kp M b r j) 3, Finset.sum_comm]
  exact Finset.sum_congr rfl fun r _ => Finset.sum_comm

end Sums

end Cert.Proof

end
-- ==== Proof.Total.lean ====
/-
  The exact value of the kernel's result: the loss over all the pixels divided by the count.
-/
module

public import proofs.«01_k».proof.Proof.Value
public import Idealize.ShloMosaic.Lib.Pipeline.ValueKit.Geometry

@[expose] public section

noncomputable section

namespace Cert.Proof

open Cert.KernelIdeal Cert.KernelIdeal.Gen
open Idealize.ShloMosaic Idealize.ShloMosaic.TcCoe
open Finset (range)

attribute [local irreducible] pix kp kpn lossB cntB

/-! ## The blocks of the call that sums -/

theorem index1 : ∀ t : Fin cfg1.N, (win1_0.index t = ![t.val, 0, 0, 0] ∧ win1_1.index t = ![t.val, 0, 0, 0]) ∧ win1_2.index t = ![t.val, 0, 0, 0] :=
  (by decide +kernel : ∀ t : Fin grid1.N, (win1_0.index t = ![t.val, 0, 0, 0] ∧ win1_1.index t = ![t.val, 0, 0, 0]) ∧ win1_2.index t = ![t.val, 0, 0, 0])

theorem ofNat_eq {n : ℕ} [NeZero n] (a : ℕ) (ha : a < n) : (Fin.ofNat n a : Fin n).val = a := Nat.mod_eq_of_lt ha

theorem rd_at (X : Img) (y : S16x3x512x512.Idx) (b c r j : ℕ) (h0 : (y 0 : ℕ) = b) (h1 : (y 1 : ℕ) = c) (h2 : (y 2 : ℕ) = r) (h3 : (y 3 : ℕ) = j) :
    X y = rd X b c r j := by
  unfold rd
  congr 1
  have l0 : (y 0 : ℕ) < 16 := (y 0).isLt
  have l1 : (y 1 : ℕ) < 3 := (y 1).isLt
  have l2 : (y 2 : ℕ) < 512 := (y 2).isLt
  have l3 : (y 3 : ℕ) < 512 := (y 3).isLt
  subst h0 h1 h2 h3
  funext a
  match a with
  | ⟨0, _⟩ => exact Fin.ext (ofNat_eq _ l0).symm
  | ⟨1, _⟩ => exact Fin.ext (ofNat_eq _ l1).symm
  | ⟨2, _⟩ => exact Fin.ext (ofNat_eq _ l2).symm
  | ⟨3, _⟩ => exact Fin.ext (ofNat_eq _ l3).symm

theorem bit_at (M : Msk) (y : S16x1x512x512.Idx) (b r j : ℕ) (h0 : (y 0 : ℕ) = b) (h2 : (y 2 : ℕ) = r) (h3 : (y 3 : ℕ) = j) : M y = bit M b r j := by
  unfold bit
  congr 1
  have l0 : (y 0 : ℕ) < 16 := (y 0).isLt
  have l1 : (y 1 : ℕ) < 1 := (y 1).isLt
  have l2 : (y 2 : ℕ) < 512 := (y 2).isLt
  have l3 : (y 3 : ℕ) < 512 := (y 3).isLt
  subst h0 h2 h3
  funext a
  match a with
  | ⟨0, _⟩ => exact Fin.ext (ofNat_eq _ l0).symm
  | ⟨1, _⟩ => exact Fin.ext (show (y 1 : ℕ) = 0 by omega)
  | ⟨2, _⟩ => exact Fin.ext (ofNat_eq _ l2).symm
  | ⟨3, _⟩ => exact Fin.ext (ofNat_eq _ l3).symm

section Blocks

variable (V : Vals Ideal) (d : Dev nD) (t : Fin cfg1.N)

theorem stgP_apply (x : S1x3x512x512.Idx) : stgP V d t x = rd (V d main_arg0) t.val (x 1 : ℕ) (x 2 : ℕ) (x 3 : ℕ) := by
  have e := (index1 t).1.1
  have h0 : (x 0 : ℕ) < 1 := (x 0).isLt
  refine rd_at _ _ _ _ _ _ ?_ ?_ ?_ ?_ <;> blk_simp [e] <;> omega

theorem stgT_apply (x : S1x3x512x512.Idx) : stgT V d t x = rd (V d main_arg1) t.val (x 1 : ℕ) (x 2 : ℕ) (x 3 : ℕ) := by
  have e := (index1 t).1.2
  have h0 : (x 0 : ℕ) < 1 := (x 0).isLt
  refine rd_at _ _ _ _ _ _ ?_ ?_ ?_ ?_ <;> blk_simp [e] <;> omega

end Blocks

section Values

variable (m : (ℓ : Loc nD τ sig) → Buf (Elt Ideal) ℓ) (d : Dev nD)

/-- The arguments on a device. -/
abbrev argP : Img := m (lc d main_arg0)
abbrev argT : Img := m (lc d main_arg1)
abbrev argM : Msk := m (lc d main_arg2)

theorem V₁_arg0 : V₁ m d main_arg0 = argP m d := Function.update_of_ne (by decide) _ _
theorem V₁_arg1 : V₁ m d main_arg1 = argT m d := Function.update_of_ne (by decide) _ _
theorem V₁_v6 : V₁ m d main_v6 = maskBytes m d := Function.update_self _ _ _

theorem stgM_apply (t : Fin cfg1.N) (x : S1x1x512x512.Idx) : stgM (V₁ m) d t x = (bit (argM m d) t.val (x 2 : ℕ) (x 3 : ℕ)).setWidth 8 := by
  have e := (index1 t).2
  have h0 : (x 0 : ℕ) < 1 := (x 0).isLt
  show V₁ m d main_v6 _ = _
  rw [V₁_v6]
  refine congrArg (BitVec.setWidth 8) (bit_at (argM m d) _ _ _ _ ?_ ?_ ?_) <;> blk_simp [e] <;> omega

/-- The two sums when `n` points are done. -/
theorem sums_apply (n : ℕ) (hn : n ≤ 12) :
    sums (F := Ideal) (V₁ m) d n = ((∑ b ∈ range n, lossB (argP m d) (argT m d) (argM m d) b, ((∑ b ∈ range n, 3 * cntB (argM m d) b : ℕ) : EReal)) : EReal × EReal) := by
  induction n with
  | zero =>
    have : sums (F := Ideal) (V₁ m) d 0 = ((0, 0) : EReal × EReal) := Prod.ext zero_f32 zero_f32
    rw [this]; simp
  | succ n ih =>
    have hN : n < cfg1.N := lt_of_lt_of_eq (by omega) N_1.symm
    rw [sums_succ (V₁ m) d ⟨n, hN⟩]
    refine Prod.ext ?_ ?_
    · refine (pay2_apply (argP m d) (argT m d) (argM m d) n _ _ _ (fun x => ?_) (fun x => ?_) (fun x => stgM_apply m d ⟨n, hN⟩ x) _).trans ?_
      · rw [stgP_apply, V₁_arg0]
      · rw [stgT_apply, V₁_arg1]
      · rw [ih (by omega), Finset.sum_range_succ _ n]
    · refine (pay3_apply (argM m d) n _ (fun x => stgM_apply m d ⟨n, hN⟩ x) _).trans ?_
      rw [ih (by omega)]
      show ((∑ b ∈ range n, 3 * cntB (argM m d) b : ℕ) : EReal) + _ = ((∑ b ∈ range (n + 1), 3 * cntB (argM m d) b : ℕ) : EReal)
      rw [Finset.sum_range_succ _ n, Nat.cast_add]

/-! ## The tiles -/

theorem maskRows_apply (x : S2048x512.Idx) :
    maskRows m d x = (((bit (argM m d) (12 + (x 0 : ℕ) / 512) ((x 0 : ℕ) % 512) (x 1 : ℕ)).toNat : ℝ) : EReal) := by
  have h0 : (x 0 : ℕ) < 2048 := (x 0).isLt
  have h1 : (x 1 : ℕ) < 512 := (x 1).isLt
  have hk := shapeCast_apply (s := S4x1x512x512) (maskFloat m d) shapeCasts_S4x1x512x512_S2048x512 x (ix4 (⟨(x 0 : ℕ) / 512, by omega⟩ : Fin 4) (0 : Fin 1) (⟨(x 0 : ℕ) % 512, by omega⟩ : Fin 512) (⟨(x 1 : ℕ), h1⟩ : Fin 512)) (by
    rw [Shape.rowMajor_val_four, Shape.rowMajor_val_two]
    show (((x 0 : ℕ) / 512 * 1 + 0) * 512 + (x 0 : ℕ) % 512) * 512 + (x 1 : ℕ) = (x 0 : ℕ) * 512 + (x 1 : ℕ)
    omega)
  refine hk.trans ?_
  refine congrArg (fun w : BitVec 1 => ((w.toNat : ℝ) : EReal)) (bit_at (argM m d) _ _ _ _ ?_ ?_ ?_)
  · show 12 + (x 0 : ℕ) / 512 = _
    rfl
  · show 0 + (x 0 : ℕ) % 512 = _
    omega
  · show 0 + (x 1 : ℕ) = _
    omega

theorem loss_word (y : S1024.Idx) (n : ℕ) (hn : n < 512) (hy : (y 0 : ℕ) = n) :
    tilesOut m d y = tileSum (pix (argP m d) (argT m d) (argM m d)) (n / 16) (n % 16) := by
  unfold tilesOut parts
  dsimp only
  rw [if_pos (by omega)]
  refine (tileLoss_apply (argP m d) (argT m d) (argM m d) (maskRows m d) (maskRows_apply m d) _ _ _).trans ?_
  congr 1
  · show 2 * ((y 0 : ℕ) % 512 / 16 / 2 % 16) + (y 0 : ℕ) % 512 / 16 % 2 = n / 16
    omega
  · show (y 0 : ℕ) % 16 = n % 16
    omega

theorem count_word (y : S1024.Idx) (n : ℕ) (hn : n < 512) (hy : (y 0 : ℕ) = 512 + n) :
    tilesOut m d y = tileSum (kp (argM m d)) (n / 16) (n % 16) := by
  unfold tilesOut parts
  dsimp only
  rw [if_neg (by omega)]
  refine (tileCount_apply (argP m d) (argT m d) (argM m d) (maskRows m d) (maskRows_apply m d) _ _ _).trans ?_
  congr 1
  · show 2 * ((y 0 : ℕ) % 512 / 16 / 2 % 16) + (y 0 : ℕ) % 512 / 16 % 2 = n / 16
    omega
  · show (y 0 : ℕ) % 16 = n % 16
    omega

/-- A sum over half of the partial sums. -/
theorem half_sum (X : S1024.Idx → EReal) (g : ℕ → ℕ → ℕ → EReal) (o : ℕ) (inb : ∀ a, (![o] : Fin 1 → ℕ) a + S512.size a ≤ S1024.size a)
    (h : ∀ (y : S1024.Idx) (n : ℕ), n < 512 → (y 0 : ℕ) = o + n → X y = tileSum g (n / 16) (n % 16)) :
    ∑ x : S512.Idx, View.ld (Val := Elt Ideal) (e' := .f32) X (Rect.unit (s := S1024) ![o] S512.size inb) x
      = ∑ b ∈ range 4, ∑ r ∈ range 512, ∑ j ∈ range 512, g (12 + b) r j := by
  rw [← tail_sum g]
  refine Eq.trans ?_ (Fin.sum_idx1_range S512.size (fun n => tileSum g (n / 16) (n % 16)))
  refine Finset.sum_congr rfl fun (x : S512.Idx) _ => h _ (x 0 : ℕ) (x 0).isLt ?_
  show o + 1 * (x 0 : ℕ) = o + (x 0 : ℕ)
  omega

/-- The loss and the count over all the pixels. -/
def lossAll : EReal := ∑ b ∈ range 16, lossB (argP m d) (argT m d) (argM m d) b
def cntAll : ℕ := ∑ b ∈ range 16, cntB (argM m d) b

theorem sum_row (v : S512.Idx → EReal) : ∑ x, shapeCast S1x512 (shapeCast S512 v shapeCasts_S512_S512) shapeCasts_S512_S1x512 x = ∑ x, v x := by
  rw [shapeCast_self]
  exact Equiv.sum_comp (Shape.reshapeEquiv _) v

theorem quotient_words (v6 v15 a c : Ideal .f32) :
    Scalar.divf (Scalar.addf a v6) (Scalar.addf (Scalar.mulf (Scalar.ofBits .f32 0x40400000#32) c) v15)
      = Ideal.div (a + v6 : EReal) (((3 : ℕ) : EReal) * c + v15) := by
  rw [← three_f32]; rfl

theorem pay_apply (v0 v8 : S512.Idx → EReal) (v6 v15 : EReal) :
    k2_pay1 (F := Ideal) v0 v6 v8 v15 = Ideal.div ((∑ x, v0 x) + v6) (((3 : ℕ) : EReal) * (∑ x, v8 x) + v15) := by
  have hs (v : S512.Idx → EReal) := word ![0, 0] _ _
    (fun j => (reduce_all (shapeCast S1x512 (shapeCast S512 v shapeCasts_S512_S512) shapeCasts_S512_S1x512) 0x00000000#32 reduces_S1x512_S1 (.inl rfl) rfl j).trans (sum_row v))
    shapeCasts_S1_S1x1 inpos_S1x1_p0_0
  rw [← hs v0, ← hs v8, ← quotient_words]
  rfl

/-- The kernel's result. -/
theorem result_apply : result (F := Ideal) m d = Ideal.div (lossAll m d) ((3 * cntAll m d : ℕ) : EReal) := by
  have hl := half_sum (tilesOut m d) (pix (argP m d) (argT m d) (argM m d)) 0 inb_S1024_S512_0 (fun y n hn hy => loss_word m d y n hn (by omega))
  have hc := half_sum (tilesOut m d) (kp (argM m d)) 512 inb_S1024_S512_512 (fun y n hn hy => count_word m d y n hn hy)
  unfold result ratio
  refine (pay_apply _ _ _ _).trans ?_
  rw [hl, hc]
  have e := sums_apply m d 12 le_rfl
  refine congrArg₂ Ideal.div ?_ ?_
  · show _ + (sums (V₁ m) d 12).1 = _
    rw [e]
    have hb (b : ℕ) : ∑ r ∈ range 512, ∑ j ∈ range 512, pix (argP m d) (argT m d) (argM m d) (12 + b) r j = lossB (argP m d) (argT m d) (argM m d) (12 + b) := by
      unfold lossB; rfl
    rw [Finset.sum_congr rfl fun b _ => hb b]
    exact batches (lossB (argP m d) (argT m d) (argM m d))
  · show _ + (sums (V₁ m) d 12).2 = _
    rw [e, Finset.sum_congr rfl fun b _ => cntB_cast (argM m d) (12 + b), ← Nat.cast_sum, ← EReal.natCast_mul, ← Nat.cast_add, ← Finset.mul_sum, ← mul_add, batches]
    rfl

end Values

end Cert.Proof

end
-- ==== Proof.Refer.lean ====
/-
  The exact value of the reference's result: the same quotient.
-/
module

public import proofs.«01_k».proof.Proof.Total
public import proofs.«01_k».proof.Proof.Gen.ReferenceIdeal.Run
public import Idealize.ShloMosaic.Lib.IndicatorCount
public import Idealize.ShloMosaic.PureOps.Reduce

@[expose] public section

noncomputable section

namespace Cert.Proof

open Cert.ReferenceIdeal Cert.ReferenceIdeal.Gen
open Idealize.ShloMosaic Idealize.ShloMosaic.TcCoe
open Finset (range)

variable (P T : Img) (M : Msk)

theorem no_axis (x y : S_.Idx) : x = y := funext fun a => a.elim0

/-- A sum over all the pixels, channels within rows. -/
theorem sum_pixels {N : Type*} [AddCommMonoid N] (f : S16x3x512x512.Idx → N) (g : ℕ → ℕ → ℕ → ℕ → N)
    (h : ∀ (b : Fin 16) (c : Fin 3) (r j : Fin 512), f (ix4 b c r j) = g b c r j) :
    ∑ x, f x = ∑ b ∈ range 16, ∑ r ∈ range 512, ∑ j ∈ range 512, ∑ c ∈ range 3, g b c r j := by
  have e1 (b : Fin 16) (c : Fin 3) : ∑ r : Fin 512, ∑ j : Fin 512, f (ix4 b c r j) = ∑ r ∈ range 512, ∑ j ∈ range 512, g b c r j := by
    rw [← Fin.sum_univ_eq_sum_range (fun r => ∑ j ∈ range 512, g b c r j)]
    refine Finset.sum_congr rfl fun r _ => ?_
    rw [← Fin.sum_univ_eq_sum_range (fun j => g b c r j)]
    exact Finset.sum_congr rfl fun j _ => h b c r j
  rw [sum_idx4 (n0 := 16) (n1 := 3) (n2 := 512) (n3 := 512), ← Fin.sum_univ_eq_sum_range (fun b => ∑ r ∈ range 512, ∑ j ∈ range 512, ∑ c ∈ range 3, g b c r j)]
  refine Finset.sum_congr rfl fun b _ => ?_
  rw [Finset.sum_congr rfl fun c _ => e1 b c, Fin.sum_univ_eq_sum_range (fun c => ∑ r ∈ range 512, ∑ j ∈ range 512, g b c r j) 3, Finset.sum_comm]
  exact Finset.sum_congr rfl fun r _ => Finset.sum_comm

/-- The reference's mask over the three channels, set where a place is kept. -/
abbrev kept : S16x3x512x512.Idx → BitVec 1 := broadcastInDim S16x3x512x512 ![0, 1, 2, 3] bcast_S16x1x512x512_S16x3x512x512_0_1_2_3 (noti M)

theorem kept_apply (b : Fin 16) (c : Fin 3) (r j : Fin 512) : kept M (ix4 b c r j) = ~~~(bit M b r j) := by
  refine (broadcastInDim_apply _ _ (noti M) (ix4 b c r j) (ix4 b (0 : Fin 1) r j) fun a => match a with | ⟨0, _⟩ => rfl | ⟨1, _⟩ => rfl | ⟨2, _⟩ => rfl | ⟨3, _⟩ => rfl).trans ?_
  show ~~~(M (ix4 b (0 : Fin 1) r j)) = _
  rw [bit_at M (ix4 b (0 : Fin 1) r j) b r j rfl rfl rfl]

theorem kept_num (b r j : ℕ) : (if ~~~(bit M b r j) = 1#1 then 1 else 0) = kpn M b r j := by
  unfold kpn
  rcases bit_cases (bit M b r j) with h | h <;> rw [h] <;> rfl

/-- The reference's masked squares. -/
abbrev masked : S16x3x512x512.Idx → EReal :=
  select (kept M) (mulf (F := Ideal) (φ := .f32) (subf (F := Ideal) (φ := .f32) T P) (subf (F := Ideal) (φ := .f32) T P))
    (broadcastInDim S16x3x512x512 ![] bcast_S_S16x3x512x512 (id (constant (F := Ideal) S_ .f32 0x00000000#32)))

theorem masked_apply (b : Fin 16) (c : Fin 3) (r j : Fin 512) : masked P T M (ix4 b c r j) = sq P T b c r j * kp M b r j := by
  have hz : broadcastInDim S16x3x512x512 ![] bcast_S_S16x3x512x512 (id (constant (F := Ideal) S_ .f32 0x00000000#32)) (ix4 b c r j) = (0 : EReal) := zero_f32
  have hq : mulf (F := Ideal) (φ := .f32) (subf (F := Ideal) (φ := .f32) T P) (subf (F := Ideal) (φ := .f32) T P) (ix4 b c r j) = sq P T b c r j := by
    unfold sq
    rw [← rd_at T (ix4 b c r j) b c r j rfl rfl rfl rfl, ← rd_at P (ix4 b c r j) b c r j rfl rfl rfl rfl]
    rfl
  refine (show masked P T M (ix4 b c r j) = if kept M (ix4 b c r j) = 1#1
    then mulf (F := Ideal) (φ := .f32) (subf (F := Ideal) (φ := .f32) T P) (subf (F := Ideal) (φ := .f32) T P) (ix4 b c r j)
    else broadcastInDim S16x3x512x512 ![] bcast_S_S16x3x512x512 (id (constant (F := Ideal) S_ .f32 0x00000000#32)) (ix4 b c r j) from rfl).trans ?_
  rw [hz, hq, kept_apply]
  unfold kp
  rw [← kept_num]
  split <;> simp

theorem masked_sum : ∑ x, masked P T M x = ∑ b ∈ range 16, lossB P T M b :=
  (sum_pixels _ (fun b c r j => sq P T b c r j * kp M b r j) (masked_apply P T M)).trans (by unfold lossB pix; rfl)

theorem kept_card : (Finset.univ.filter fun x => kept M x = 1#1).card = 3 * ∑ b ∈ range 16, cntB M b := by
  rw [Finset.card_filter, sum_pixels _ (fun b _ r j => kpn M b r j) fun b c r j => by rw [kept_apply, kept_num]]
  unfold cntB
  simp only [Finset.sum_const, Finset.card_range, smul_eq_mul, ← Finset.mul_sum]

theorem cntB_le (b : ℕ) : cntB M b ≤ 512 * (512 * 1) := by
  unfold cntB
  refine (Finset.sum_le_card_nsmul _ _ (512 * 1) fun r _ => (Finset.sum_le_card_nsmul _ _ 1 fun j _ => ?_).trans_eq ?_).trans_eq ?_
  · rcases kpn_cases M b r j with h | h <;> omega
  · rw [Finset.card_range, smul_eq_mul]
  · rw [Finset.card_range, smul_eq_mul]

theorem count_le : ∑ b ∈ range 16, cntB M b ≤ 16 * (512 * (512 * 1)) :=
  (Finset.sum_le_card_nsmul _ _ _ fun b _ => cntB_le M b).trans_eq (by rw [Finset.card_range, smul_eq_mul])

theorem word_int (n : ℕ) (h : n < 2 ^ 31) : (((BitVec.ofNat 32 n).toInt : ℝ) : EReal) = (n : EReal) := by
  have e : (BitVec.ofNat 32 n).toInt = (n : ℤ) := by
    rw [BitVec.toInt_eq_toNat_of_lt, BitVec.toNat_ofNat, Nat.mod_eq_of_lt (by omega)]
    rw [BitVec.toNat_ofNat, Nat.mod_eq_of_lt (by omega)]
    omega
  rw [e]; simp

/-- The reference's two reductions. -/
theorem ref_sum (j : S_.Idx) :
    Host.reduceAdd (F := Ideal) (φ := .f32) (masked P T M) (constant (F := Ideal) S_ .f32 0x00000000#32) reducesTo_S16x3x512x512_S_d0_1_2_3 h_S_ j
      = ∑ b ∈ range 16, lossB P T M b := by
  rw [← masked_sum]
  show (Scalar.ofBits .f32 0x00000000#32 : Ideal .f32) + (∑ i ∈ Finset.univ.filter (fun i => reducesTo_S16x3x512x512_S_d0_1_2_3.drop i = j), masked P T M i : EReal) = _
  rw [Finset.filter_true_of_mem fun i _ => no_axis _ _]
  exact (congrArg (fun a : EReal => a + _) zero_f32).trans (zero_add _)

theorem ref_count (j : S_.Idx) :
    Host.reduce IntOp.addi (extui 32 (kept M) natLt_1_32) (constantI S_ 32 0#32) reducesTo_S16x3x512x512_S_d0_1_2_3 h_S_ j
      = BitVec.ofNat 32 (3 * ∑ b ∈ range 16, cntB M b) := by
  rw [Host.reduce_eq_fold, Finset.filter_true_of_mem fun i _ => no_axis _ _, ← kept_card]
  exact IndicatorCount.fold_addi_setWidth_eq_card (w := 32) (kept M) Finset.univ

theorem ref_apply (j : S_.Idx) :
    Host.divf (F := Ideal) (φ := .f32) (Host.reduceAdd (F := Ideal) (φ := .f32) (masked P T M) (constant (F := Ideal) S_ .f32 0x00000000#32) reducesTo_S16x3x512x512_S_d0_1_2_3 h_S_)
      (sitofp .f32 (Host.reduce IntOp.addi (extui 32 (kept M) natLt_1_32) (constantI S_ 32 0#32) reducesTo_S16x3x512x512_S_d0_1_2_3 h_S_)) j
      = Ideal.div (∑ b ∈ range 16, lossB P T M b) ((3 * ∑ b ∈ range 16, cntB M b : ℕ) : EReal) := by
  have hn := count_le M
  have hw := word_int (3 * ∑ b ∈ range 16, cntB M b) (by omega)
  refine congrArg₂ Ideal.div (ref_sum P T M j) (Eq.trans ?_ hw)
  exact congrArg (fun w : BitVec 32 => ((w.toInt : ℝ) : EReal)) (ref_count M j)

end Cert.Proof

end
-- ==== Proof.lean ====
/-
  The certificate's claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Refer

@[expose] public section

noncomputable section

namespace Cert.Proof

open Idealize.ShloMosaic Idealize.SL.Sem

/-- The kernel runs to the end and gives back its arguments and counters. The idealized kernel is the same text, so its run
    is read at bits. -/
theorem frame_kernel : Cert.quiescent_Kernel := fun m ρ _ => run_same _ _
  ((θ_run Cert.KernelIdeal.defs _ _).mono (fun _ h => ⟨fun c => (h.1 c).2, h.2⟩) (run_main (F := Bits) m ρ))

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the kernel and the reference give the same result: the loss over all the kept pixels divided by
    three times their number. -/
theorem same_value : Cert.algebraic_KernelIdeal_ReferenceIdeal := fun m g m' g' _ h =>
  ⟨fun c _ => result (F := Ideal) m c,
    (θ_run Cert.KernelIdeal.defs _ _).mono (fun _ hr c => hr.1 c) (run_main (F := Ideal) m g),
    (θ_run Cert.ReferenceIdeal.defs _ _).mono (fun _ hr c => ⟨(hr c).1.trans (by
      rw [(h c).1, (h c).2.1, (h c).2.2]
      funext j
      exact (ref_apply (argP m c) (argT m c) (argM m c) j).trans (result_apply m c).symm), (hr c).2⟩)
      (Cert.ReferenceIdeal.Value.run (F := Ideal) m' g')⟩

theorem claim : Cert.Claim := ⟨Cert.Kernel.Gen.facts, Cert.KernelIdeal.Gen.facts, Cert.ReferenceIdeal.Gen.facts, frame_kernel, frame_ideal,
  frame_reference, trivial, same_value⟩

end Cert.Proof

end
